-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unclipped_KernelIdeal [hPre_unclipped_KernelIdeal : Cert.Pre_unclipped_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_unclipped_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unclipped_ReferenceIdeal [hPre_unclipped_ReferenceIdeal : Cert.Pre_unclipped_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unclipped_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_unclipped_KernelIdeal [hKernelIdeal : Cert.KernelIdeal.Facts] [hPre_unclipped_KernelIdeal : Cert.Pre_unclipped_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unclipped_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_unclipped_ReferenceIdeal [hReferenceIdeal : Cert.ReferenceIdeal.Facts] [hPre_unclipped_ReferenceIdeal : Cert.Pre_unclipped_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unclipped_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_unclipped_KernelIdeal [hKernelIdeal : Cert.KernelIdeal.Facts] [hReferenceIdeal : Cert.ReferenceIdeal.Facts] [hPre_unclipped_KernelIdeal : Cert.Pre_unclipped_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unclipped_KernelIdeal m →
    (∀ c : Dev Cert.KernelIdeal.nD,
      m ((c.tc : Thread Cert.KernelIdeal.nD Cert.KernelIdeal.τ).loc Cert.KernelIdeal.main_arg0) = Layout.block ⟨2, ![1024, 128]⟩ ⟨2, ![1024, 1024]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 1024]⟩ ⟨2, ![1024, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_unclipped_KernelIdeal : Cert.Pre_unclipped_KernelIdeal.Facts) (hPre_unclipped_ReferenceIdeal : Cert.Pre_unclipped_ReferenceIdeal.Facts),
    quiescent_Kernel (hKernel := hKernel)
    ∧ quiescent_KernelIdeal (hKernelIdeal := hKernelIdeal)
    ∧ quiescent_KernelIdeal_pre_unclipped_KernelIdeal (hKernelIdeal := hKernelIdeal) (hPre_unclipped_KernelIdeal := hPre_unclipped_KernelIdeal)
    ∧ quiescent_ReferenceIdeal (hReferenceIdeal := hReferenceIdeal)
    ∧ quiescent_ReferenceIdeal_pre_unclipped_ReferenceIdeal (hReferenceIdeal := hReferenceIdeal) (hPre_unclipped_ReferenceIdeal := hPre_unclipped_ReferenceIdeal)
    ∧ preserves_Kernel_KernelIdeal
    ∧ algebraic_KernelIdeal_ReferenceIdeal_pre_unclipped_KernelIdeal (hKernelIdeal := hKernelIdeal) (hReferenceIdeal := hReferenceIdeal) (hPre_unclipped_KernelIdeal := hPre_unclipped_KernelIdeal)
-- ==== Pre_unclipped_KernelIdeal.lean ====
abbrev S1024x128 : Shape := ⟨2, ![1024, 128]⟩
abbrev S1024x1024 : Shape := ⟨2, ![1024, 1024]⟩
abbrev S8x128x1024 : Shape := ⟨3, ![8, 128, 1024]⟩
abbrev S1024x8x1024 : Shape := ⟨3, ![1024, 8, 1024]⟩
abbrev S_ : Shape := ⟨0, ![]⟩

class Facts : Prop where
  shapeCasts_S1024x1024_S8x128x1024 : S1024x1024.ShapeCasts S8x128x1024
  bcast_S_S1024x8x1024 : S_.BroadcastsInDim S1024x8x1024 (![] : Fin 0 → Fin S1024x8x1024.rank)
  dot_S1024x128_S8x128x1024_S1024x8x1024_1_1_0_02_n_n_wf : DotDims.WF S1024x128 S8x128x1024 S1024x8x1024 [1] [1] [0] [0, 2] [] []

variable [Facts]

def dot_S1024x128_S8x128x1024_S1024x8x1024_1_1_0_02_n_n : DotDims S1024x128 S8x128x1024 S1024x8x1024 where
  lhsContracting := [1]
  rhsContracting := [1]
  lhsNonContracting := [0]
  rhsNonContracting := [0, 2]
  lhsBatch := []
  rhsBatch := []
  wf := dot_S1024x128_S8x128x1024_S1024x8x1024_1_1_0_02_n_n_wf
def fn {F : FTy → Type} [FloatOps F] (main_arg0 : FVec F S1024x128 .bf16) (main_arg1 : FVec F S1024x1024 .bf16) : IVec S1024x8x1024 1 :=
  let main_v0 : FVec F S8x128x1024 .bf16 := shapeCast S8x128x1024 main_arg1 shapeCasts_S1024x1024_S8x128x1024
  let main_v1 : FVec F S1024x8x1024 .f32 := (fun l r => Host.dotGeneral dot_S1024x128_S8x128x1024_S1024x8x1024_1_1_0_02_n_n none l r) main_arg0 main_v0
  let main_cst : FVec F S_ .f32 := constant S_ .f32 0x40F00000#32
  let main_v2 : FVec F S1024x8x1024 .f32 := broadcastInDim S1024x8x1024 ![] bcast_S_S1024x8x1024 main_cst
  let main_v3 : IVec S1024x8x1024 1 := cmpf .ole main_v1 main_v2
  let main_cst_0 : FVec F S_ .f32 := constant S_ .f32 0xC0F00000#32
  let main_v4 : FVec F S1024x8x1024 .f32 := broadcastInDim S1024x8x1024 ![] bcast_S_S1024x8x1024 main_cst_0
  let main_v5 : IVec S1024x8x1024 1 := cmpf .oge main_v1 main_v4
  let main_v6 : IVec S1024x8x1024 1 := andi main_v3 main_v5
  main_v6
-- ==== Pre_unclipped_ReferenceIdeal.lean ====
abbrev S1024x1024 : Shape := ⟨2, ![1024, 1024]⟩
abbrev S1x1024x1024 : Shape := ⟨3, ![1, 1024, 1024]⟩
abbrev S1024x1x1024 : Shape := ⟨3, ![1024, 1, 1024]⟩
abbrev S_ : Shape := ⟨0, ![]⟩

class Facts : Prop where
  shapeCasts_S1024x1024_S1x1024x1024 : S1024x1024.ShapeCasts S1x1024x1024
  bcast_S_S1024x1x1024 : S_.BroadcastsInDim S1024x1x1024 (![] : Fin 0 → Fin S1024x1x1024.rank)
  dot_S1024x1024_S1x1024x1024_S1024x1x1024_1_1_0_02_n_n_wf : DotDims.WF S1024x1024 S1x1024x1024 S1024x1x1024 [1] [1] [0] [0, 2] [] []

variable [Facts]

def dot_S1024x1024_S1x1024x1024_S1024x1x1024_1_1_0_02_n_n : DotDims S1024x1024 S1x1024x1024 S1024x1x1024 where
  lhsContracting := [1]
  rhsContracting := [1]
  lhsNonContracting := [0]
  rhsNonContracting := [0, 2]
  lhsBatch := []
  rhsBatch := []
  wf := dot_S1024x1024_S1x1024x1024_S1024x1x1024_1_1_0_02_n_n_wf
def fn {F : FTy → Type} [FloatOps F] (main_arg0 : FVec F S1024x1024 .bf16) (main_arg1 : FVec F S1024x1024 .bf16) : IVec S1024x1x1024 1 :=
  let main_v0 : FVec F S1x1024x1024 .bf16 := shapeCast S1x1024x1024 main_arg1 shapeCasts_S1024x1024_S1x1024x1024
  let main_v1 : FVec F S1024x1x1024 .f32 := (fun l r => Host.dotGeneral dot_S1024x1024_S1x1024x1024_S1024x1x1024_1_1_0_02_n_n none l r) main_arg0 main_v0
  let main_cst : FVec F S_ .f32 := constant S_ .f32 0x40F00000#32
  let main_v2 : FVec F S1024x1x1024 .f32 := broadcastInDim S1024x1x1024 ![] bcast_S_S1024x1x1024 main_cst
  let main_v3 : IVec S1024x1x1024 1 := cmpf .ole main_v1 main_v2
  let main_cst_0 : FVec F S_ .f32 := constant S_ .f32 0xC0F00000#32
  let main_v4 : FVec F S1024x1x1024 .f32 := broadcastInDim S1024x1x1024 ![] bcast_S_S1024x1x1024 main_cst_0
  let main_v5 : IVec S1024x1x1024 1 := cmpf .oge main_v1 main_v4
  let main_v6 : IVec S1024x1x1024 1 := andi main_v3 main_v5
  main_v6
-- ==== Kernel.lean ====
abbrev S1024x128 : Shape := ⟨2, ![1024, 128]⟩
abbrev S1024x1024 : Shape := ⟨2, ![1024, 1024]⟩
abbrev S128x1024 : Shape := ⟨2, ![128, 1024]⟩
abbrev S7 : Shape := ⟨1, ![7]⟩
abbrev S_ : Shape := ⟨0, ![]⟩
abbrev S128x128 : Shape := ⟨2, ![128, 128]⟩
abbrev S1 : Shape := ⟨1, ![1]⟩

abbrev nBuf : Space → Nat
  | .hbm => 3
  | .vmem => 6
  | .smem => 0
  | _ => 0

abbrev bufTy : (tb : Table) → Fin (tcTables nBuf tb) → BufTy
  | .hbm, ⟨0, _⟩ => ⟨S1024x128, .bf16⟩
  | .hbm, ⟨1, _⟩ => ⟨S1024x1024, .bf16⟩
  | .hbm, ⟨2, _⟩ => ⟨S128x1024, .f32⟩
  | .local _ .vmem, ⟨0, _⟩ => ⟨S1024x128, .bf16⟩
  | .local _ .vmem, ⟨1, _⟩ => ⟨S1024x1024, .bf16⟩
  | .local _ .vmem, ⟨2, _⟩ => ⟨S128x1024, .f32⟩
  | .local _ .vmem, ⟨3, _⟩ => ⟨S1024x128, .bf16⟩
  | .local _ .vmem, ⟨4, _⟩ => ⟨S128x1024, .bf16⟩
  | .local _ .vmem, ⟨5, _⟩ => ⟨S1024x1024, .bf16⟩
  | _, _ => ⟨S1024x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) : Fin 2 → Nat :=
  let c0_i32_67 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_66 : BitVec 32 := 128#32
  let v101 : BitVec 32 := Scalar.muli v2 c128_i32_66
  ![0, v101.toNat]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32 : BitVec 32 := 128#32
  let v100 : BitVec 32 := Scalar.muli v2 c128_i32
  let c0_i32_68 : BitVec 32 := 0#32
  ![v100.toNat, 0]
def k0_off3 (d0 : Dev nD) (c1_i32_74 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v109 : BitVec 32 := Scalar.addi v2 c1_i32_74
  let c8_i32_75 : BitVec 32 := 8#32
  let c0_i32_76 : BitVec 32 := 0#32
  let v110 : BitVec 1 := Scalar.cmpi .eq c8_i32_75 c0_i32_76
  let c1_i32_77 : BitVec 32 := 1#32
  let v111 : BitVec 32 := Scalar.select v110 c1_i32_77 c8_i32_75
  let v112 : BitVec 32 := Scalar.remsi v109 v111
  let c0_i32_79 : BitVec 32 := 0#32
  let v114 : BitVec 1 := Scalar.cmpi .slt v112 c0_i32_79
  let c0_i32_80 : BitVec 32 := 0#32
  let v115 : BitVec 1 := Scalar.cmpi .slt v111 c0_i32_80
  let v116 : BitVec 1 := Scalar.xori v114 v115
  let c0_i32_78 : BitVec 32 := 0#32
  let v113 : BitVec 1 := Scalar.cmpi .ne v112 c0_i32_78
  let v117 : BitVec 1 := Scalar.andi v116 v113
  let v118 : BitVec 32 := Scalar.addi v112 v111
  let v119 : BitVec 32 := Scalar.select v117 v118 v112
  let c128_i32_81 : BitVec 32 := 128#32
  let v120 : BitVec 32 := Scalar.muli v119 c128_i32_81
  let c0_i32_88 : BitVec 32 := 0#32
  ![v120.toNat, 0]
def k0_dev8 (d0 : Dev nD) : Nat :=
  let c0_i32_86 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_74 : BitVec 32 := 1#32
  let v109 : BitVec 32 := Scalar.addi v2 c1_i32_74
  let c8_i32_75 : BitVec 32 := 8#32
  let c0_i32_76 : BitVec 32 := 0#32
  let v110 : BitVec 1 := Scalar.cmpi .eq c8_i32_75 c0_i32_76
  let c1_i32_77 : BitVec 32 := 1#32
  let v111 : BitVec 32 := Scalar.select v110 c1_i32_77 c8_i32_75
  let v112 : BitVec 32 := Scalar.remsi v109 v111
  let c0_i32_79 : BitVec 32 := 0#32
  let v114 : BitVec 1 := Scalar.cmpi .slt v112 c0_i32_79
  let c0_i32_80 : BitVec 32 := 0#32
  let v115 : BitVec 1 := Scalar.cmpi .slt v111 c0_i32_80
  let v116 : BitVec 1 := Scalar.xori v114 v115
  let c0_i32_78 : BitVec 32 := 0#32
  let v113 : BitVec 1 := Scalar.cmpi .ne v112 c0_i32_78
  let v117 : BitVec 1 := Scalar.andi v116 v113
  let v118 : BitVec 32 := Scalar.addi v112 v111
  let v119 : BitVec 32 := Scalar.select v117 v118 v112
  let c1_i32_85 : BitVec 32 := 1#32
  let v122 : BitVec 32 := Scalar.muli v119 c1_i32_85
  let v123 : BitVec 32 := Scalar.addi c0_i32_86 v122
  v123.toNat
def k0_dev9 (d0 : Dev nD) : Nat :=
  let c0_i32_101 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_89 : BitVec 32 := 2#32
  let v130 : BitVec 32 := Scalar.addi v2 c2_i32_89
  let c8_i32_90 : BitVec 32 := 8#32
  let c0_i32_91 : BitVec 32 := 0#32
  let v131 : BitVec 1 := Scalar.cmpi .eq c8_i32_90 c0_i32_91
  let c1_i32_92 : BitVec 32 := 1#32
  let v132 : BitVec 32 := Scalar.select v131 c1_i32_92 c8_i32_90
  let v133 : BitVec 32 := Scalar.remsi v130 v132
  let c0_i32_94 : BitVec 32 := 0#32
  let v135 : BitVec 1 := Scalar.cmpi .slt v133 c0_i32_94
  let c0_i32_95 : BitVec 32 := 0#32
  let v136 : BitVec 1 := Scalar.cmpi .slt v132 c0_i32_95
  let v137 : BitVec 1 := Scalar.xori v135 v136
  let c0_i32_93 : BitVec 32 := 0#32
  let v134 : BitVec 1 := Scalar.cmpi .ne v133 c0_i32_93
  let v138 : BitVec 1 := Scalar.andi v137 v134
  let v139 : BitVec 32 := Scalar.addi v133 v132
  let v140 : BitVec 32 := Scalar.select v138 v139 v133
  let c1_i32_100 : BitVec 32 := 1#32
  let v143 : BitVec 32 := Scalar.muli v140 c1_i32_100
  let v144 : BitVec 32 := Scalar.addi c0_i32_101 v143
  v144.toNat
def k0_dev10 (d0 : Dev nD) : Nat :=
  let c0_i32_116 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_104 : BitVec 32 := 3#32
  let v151 : BitVec 32 := Scalar.addi v2 c3_i32_104
  let c8_i32_105 : BitVec 32 := 8#32
  let c0_i32_106 : BitVec 32 := 0#32
  let v152 : BitVec 1 := Scalar.cmpi .eq c8_i32_105 c0_i32_106
  let c1_i32_107 : BitVec 32 := 1#32
  let v153 : BitVec 32 := Scalar.select v152 c1_i32_107 c8_i32_105
  let v154 : BitVec 32 := Scalar.remsi v151 v153
  let c0_i32_109 : BitVec 32 := 0#32
  let v156 : BitVec 1 := Scalar.cmpi .slt v154 c0_i32_109
  let c0_i32_110 : BitVec 32 := 0#32
  let v157 : BitVec 1 := Scalar.cmpi .slt v153 c0_i32_110
  let v158 : BitVec 1 := Scalar.xori v156 v157
  let c0_i32_108 : BitVec 32 := 0#32
  let v155 : BitVec 1 := Scalar.cmpi .ne v154 c0_i32_108
  let v159 : BitVec 1 := Scalar.andi v158 v155
  let v160 : BitVec 32 := Scalar.addi v154 v153
  let v161 : BitVec 32 := Scalar.select v159 v160 v154
  let c1_i32_115 : BitVec 32 := 1#32
  let v164 : BitVec 32 := Scalar.muli v161 c1_i32_115
  let v165 : BitVec 32 := Scalar.addi c0_i32_116 v164
  v165.toNat
def k0_dev11 (d0 : Dev nD) : Nat :=
  let c0_i32_131 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_119 : BitVec 32 := 4#32
  let v172 : BitVec 32 := Scalar.addi v2 c4_i32_119
  let c8_i32_120 : BitVec 32 := 8#32
  let c0_i32_121 : BitVec 32 := 0#32
  let v173 : BitVec 1 := Scalar.cmpi .eq c8_i32_120 c0_i32_121
  let c1_i32_122 : BitVec 32 := 1#32
  let v174 : BitVec 32 := Scalar.select v173 c1_i32_122 c8_i32_120
  let v175 : BitVec 32 := Scalar.remsi v172 v174
  let c0_i32_124 : BitVec 32 := 0#32
  let v177 : BitVec 1 := Scalar.cmpi .slt v175 c0_i32_124
  let c0_i32_125 : BitVec 32 := 0#32
  let v178 : BitVec 1 := Scalar.cmpi .slt v174 c0_i32_125
  let v179 : BitVec 1 := Scalar.xori v177 v178
  let c0_i32_123 : BitVec 32 := 0#32
  let v176 : BitVec 1 := Scalar.cmpi .ne v175 c0_i32_123
  let v180 : BitVec 1 := Scalar.andi v179 v176
  let v181 : BitVec 32 := Scalar.addi v175 v174
  let v182 : BitVec 32 := Scalar.select v180 v181 v175
  let c1_i32_130 : BitVec 32 := 1#32
  let v185 : BitVec 32 := Scalar.muli v182 c1_i32_130
  let v186 : BitVec 32 := Scalar.addi c0_i32_131 v185
  v186.toNat
def k0_dev12 (d0 : Dev nD) : Nat :=
  let c0_i32_146 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_134 : BitVec 32 := 5#32
  let v193 : BitVec 32 := Scalar.addi v2 c5_i32_134
  let c8_i32_135 : BitVec 32 := 8#32
  let c0_i32_136 : BitVec 32 := 0#32
  let v194 : BitVec 1 := Scalar.cmpi .eq c8_i32_135 c0_i32_136
  let c1_i32_137 : BitVec 32 := 1#32
  let v195 : BitVec 32 := Scalar.select v194 c1_i32_137 c8_i32_135
  let v196 : BitVec 32 := Scalar.remsi v193 v195
  let c0_i32_139 : BitVec 32 := 0#32
  let v198 : BitVec 1 := Scalar.cmpi .slt v196 c0_i32_139
  let c0_i32_140 : BitVec 32 := 0#32
  let v199 : BitVec 1 := Scalar.cmpi .slt v195 c0_i32_140
  let v200 : BitVec 1 := Scalar.xori v198 v199
  let c0_i32_138 : BitVec 32 := 0#32
  let v197 : BitVec 1 := Scalar.cmpi .ne v196 c0_i32_138
  let v201 : BitVec 1 := Scalar.andi v200 v197
  let v202 : BitVec 32 := Scalar.addi v196 v195
  let v203 : BitVec 32 := Scalar.select v201 v202 v196
  let c1_i32_145 : BitVec 32 := 1#32
  let v206 : BitVec 32 := Scalar.muli v203 c1_i32_145
  let v207 : BitVec 32 := Scalar.addi c0_i32_146 v206
  v207.toNat
def k0_dev13 (d0 : Dev nD) : Nat :=
  let c0_i32_161 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_149 : BitVec 32 := 6#32
  let v214 : BitVec 32 := Scalar.addi v2 c6_i32_149
  let c8_i32_150 : BitVec 32 := 8#32
  let c0_i32_151 : BitVec 32 := 0#32
  let v215 : BitVec 1 := Scalar.cmpi .eq c8_i32_150 c0_i32_151
  let c1_i32_152 : BitVec 32 := 1#32
  let v216 : BitVec 32 := Scalar.select v215 c1_i32_152 c8_i32_150
  let v217 : BitVec 32 := Scalar.remsi v214 v216
  let c0_i32_154 : BitVec 32 := 0#32
  let v219 : BitVec 1 := Scalar.cmpi .slt v217 c0_i32_154
  let c0_i32_155 : BitVec 32 := 0#32
  let v220 : BitVec 1 := Scalar.cmpi .slt v216 c0_i32_155
  let v221 : BitVec 1 := Scalar.xori v219 v220
  let c0_i32_153 : BitVec 32 := 0#32
  let v218 : BitVec 1 := Scalar.cmpi .ne v217 c0_i32_153
  let v222 : BitVec 1 := Scalar.andi v221 v218
  let v223 : BitVec 32 := Scalar.addi v217 v216
  let v224 : BitVec 32 := Scalar.select v222 v223 v217
  let c1_i32_160 : BitVec 32 := 1#32
  let v227 : BitVec 32 := Scalar.muli v224 c1_i32_160
  let v228 : BitVec 32 := Scalar.addi c0_i32_161 v227
  v228.toNat
def k0_dev14 (d0 : Dev nD) : Nat :=
  let c0_i32_176 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_164 : BitVec 32 := 7#32
  let v235 : BitVec 32 := Scalar.addi v2 c7_i32_164
  let c8_i32_165 : BitVec 32 := 8#32
  let c0_i32_166 : BitVec 32 := 0#32
  let v236 : BitVec 1 := Scalar.cmpi .eq c8_i32_165 c0_i32_166
  let c1_i32_167 : BitVec 32 := 1#32
  let v237 : BitVec 32 := Scalar.select v236 c1_i32_167 c8_i32_165
  let v238 : BitVec 32 := Scalar.remsi v235 v237
  let c0_i32_169 : BitVec 32 := 0#32
  let v240 : BitVec 1 := Scalar.cmpi .slt v238 c0_i32_169
  let c0_i32_170 : BitVec 32 := 0#32
  let v241 : BitVec 1 := Scalar.cmpi .slt v237 c0_i32_170
  let v242 : BitVec 1 := Scalar.xori v240 v241
  let c0_i32_168 : BitVec 32 := 0#32
  let v239 : BitVec 1 := Scalar.cmpi .ne v238 c0_i32_168
  let v243 : BitVec 1 := Scalar.andi v242 v239
  let v244 : BitVec 32 := Scalar.addi v238 v237
  let v245 : BitVec 32 := Scalar.select v243 v244 v238
  let c1_i32_175 : BitVec 32 := 1#32
  let v248 : BitVec 32 := Scalar.muli v245 c1_i32_175
  let v249 : BitVec 32 := Scalar.addi c0_i32_176 v248
  v249.toNat
def k0_off4 (d0 : Dev nD) (c1_i32_182 : BitVec 32) : Fin 2 → Nat :=
  let c0_i32_195 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_181 : BitVec 32 := 8#32
  let v258 : BitVec 32 := Scalar.addi v2 c8_i32_181
  let v259 : BitVec 32 := Scalar.subi v258 c1_i32_182
  let c8_i32_183 : BitVec 32 := 8#32
  let c0_i32_184 : BitVec 32 := 0#32
  let v260 : BitVec 1 := Scalar.cmpi .eq c8_i32_183 c0_i32_184
  let c1_i32_185 : BitVec 32 := 1#32
  let v261 : BitVec 32 := Scalar.select v260 c1_i32_185 c8_i32_183
  let v262 : BitVec 32 := Scalar.remsi v259 v261
  let c0_i32_187 : BitVec 32 := 0#32
  let v264 : BitVec 1 := Scalar.cmpi .slt v262 c0_i32_187
  let c0_i32_188 : BitVec 32 := 0#32
  let v265 : BitVec 1 := Scalar.cmpi .slt v261 c0_i32_188
  let v266 : BitVec 1 := Scalar.xori v264 v265
  let c0_i32_186 : BitVec 32 := 0#32
  let v263 : BitVec 1 := Scalar.cmpi .ne v262 c0_i32_186
  let v267 : BitVec 1 := Scalar.andi v266 v263
  let v268 : BitVec 32 := Scalar.addi v262 v261
  let v269 : BitVec 32 := Scalar.select v267 v268 v262
  let c128_i32_190 : BitVec 32 := 128#32
  let v271 : BitVec 32 := Scalar.muli v269 c128_i32_190
  ![0, v271.toNat]
abbrev stage0_0 : Fin 1 → Memref sig .tc .vmem S1024x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S1024x1024, .f32⟩
  | .hbm, ⟨15, _⟩ => ⟨S1024x1024, .f32⟩
  | .hbm, ⟨16, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Proof.KernelIdeal.Blocks.lean ====
/-
# The eight devices, the semaphores and the blocks of the two gathered buffers

Each of the eight devices holds `x_bf` (1024 x 128, its columns of `x`) and gathers `x_full` (128 x 1024). Row block
`t` of `x_bf` is rows `128 t … 128 t + 127`; column block `p` of `x_full` is columns `128 p … 128 p + 127`. Device `p`
writes its row block `t` into column block `p` of device `t`'s `x_full`. This module names the devices at a distance on
the ring, the semaphores, the blocks, and says what a transfer leaves in a block.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Tactic

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The algebra: the pipeline's copy beside this kernel's, whose duties are named by `Fin 7` -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Devices at a distance -/

set_option backward.proofsInPublic true in
/-- The device `j + 1` places after `c`. -/
def fwd (c : Dev nD) (j : Fin 7) : Dev nD := ⟨(c.val + j.val + 1) % 8, Nat.mod_lt _ (by decide)⟩
set_option backward.proofsInPublic true in
/-- The device `j + 1` places before `c`. -/
def bwd (c : Dev nD) (j : Fin 7) : Dev nD := ⟨(c.val + 7 - j.val) % 8, Nat.mod_lt _ (by decide)⟩

theorem bwd_fwd (c : Dev nD) (j : Fin 7) : bwd (fwd c j) j = c := by revert c j; decide
theorem fwd_bwd (c : Dev nD) (j : Fin 7) : fwd (bwd c j) j = c := by revert c j; decide
/-- The device `j + 1` places before is the one `7 - j` places after. -/
theorem bwd_rev (c : Dev nD) (j : Fin 7) : bwd c (Fin.rev j) = fwd c j := by revert c j; decide
theorem fwd_ne (c : Dev nD) (j : Fin 7) : fwd c j ≠ c := by revert c j; decide
theorem fwd_inj (c : Dev nD) : Function.Injective (fwd c) := by intro j j'; revert c j j'; decide
theorem exists_fwd (c d : Dev nD) (h : d ≠ c) : ∃ j, fwd c j = d := by revert c d; decide

/-- Going `j + 1` places on is a permutation of the devices. -/
def turn (j : Fin 7) : Dev nD ≃ Dev nD := ⟨fun c => fwd c j, fun c => bwd c j, fun c => bwd_fwd c j, fun c => fwd_bwd c j⟩

/-- The devices are one of them and the seven after it. -/
theorem univ_ring (c : Dev nD) : (Finset.univ : Finset (Dev nD)).erase c = Finset.univ.map ⟨fwd c, fwd_inj c⟩ := by
  revert c; decide

/-- A separating product over the devices is the factor of one of them and those of the seven after it. -/
theorem ring_split {M : Type} [URA M] (c : Dev nD) (Φ : Dev nD → sProp M) :
    bigSep Finset.univ Φ = iprop(Φ c ∗ bigSep Finset.univ fun j : Fin 7 => Φ (fwd c j)) := by
  rw [bigSep_univ_at Φ c, univ_ring c, bigSep_map]; rfl

/-- The same, the seven counted backwards. -/
theorem ring_split_bwd {M : Type} [URA M] (c : Dev nD) (Φ : Dev nD → sProp M) :
    bigSep Finset.univ Φ = iprop(Φ c ∗ bigSep Finset.univ fun j : Fin 7 => Φ (bwd c j)) := by
  rw [ring_split c Φ, bigSep_univ_equiv Fin.revPerm (fun j : Fin 7 => Φ (bwd c j))]
  simp only [Fin.revPerm_apply, bwd_rev]

/-! ## The device numbers and offsets the kernel computes -/

theorem dev1_eq (c : Dev nD) : (⟨k0_dev1 c, k0_dev1_lt c⟩ : Dev nD) = fwd c 0 := by revert c; decide +kernel
theorem dev2_eq (c : Dev nD) : (⟨k0_dev2 c, k0_dev2_lt c⟩ : Dev nD) = fwd c 1 := by revert c; decide +kernel
theorem dev3_eq (c : Dev nD) : (⟨k0_dev3 c, k0_dev3_lt c⟩ : Dev nD) = fwd c 2 := by revert c; decide +kernel
theorem dev4_eq (c : Dev nD) : (⟨k0_dev4 c, k0_dev4_lt c⟩ : Dev nD) = fwd c 3 := by revert c; decide +kernel
theorem dev5_eq (c : Dev nD) : (⟨k0_dev5 c, k0_dev5_lt c⟩ : Dev nD) = fwd c 4 := by revert c; decide +kernel
theorem dev6_eq (c : Dev nD) : (⟨k0_dev6 c, k0_dev6_lt c⟩ : Dev nD) = fwd c 5 := by revert c; decide +kernel
theorem dev7_eq (c : Dev nD) : (⟨k0_dev7 c, k0_dev7_lt c⟩ : Dev nD) = fwd c 6 := by revert c; decide +kernel
theorem dev8_eq (c : Dev nD) : (⟨k0_dev8 c, k0_dev8_lt c⟩ : Dev nD) = fwd c 0 := by revert c; decide +kernel
theorem dev9_eq (c : Dev nD) : (⟨k0_dev9 c, k0_dev9_lt c⟩ : Dev nD) = fwd c 1 := by revert c; decide +kernel
theorem dev10_eq (c : Dev nD) : (⟨k0_dev10 c, k0_dev10_lt c⟩ : Dev nD) = fwd c 2 := by revert c; decide +kernel
theorem dev11_eq (c : Dev nD) : (⟨k0_dev11 c, k0_dev11_lt c⟩ : Dev nD) = fwd c 3 := by revert c; decide +kernel
theorem dev12_eq (c : Dev nD) : (⟨k0_dev12 c, k0_dev12_lt c⟩ : Dev nD) = fwd c 4 := by revert c; decide +kernel
theorem dev13_eq (c : Dev nD) : (⟨k0_dev13 c, k0_dev13_lt c⟩ : Dev nD) = fwd c 5 := by revert c; decide +kernel
theorem dev14_eq (c : Dev nD) : (⟨k0_dev14 c, k0_dev14_lt c⟩ : Dev nD) = fwd c 6 := by revert c; decide +kernel

/-- The rows the `j`-th transfer reads are the row block of the device it goes to. -/
theorem off3_eq (c : Dev nD) (j : Fin 7) : k0_off3 c (BitVec.ofNat 32 (1 + j.val)) = k0_off2 (fwd c j) := by
  revert c j; decide +kernel

/-! ## The semaphores -/

/-- The barrier semaphore. -/
abbrev barS : Sem sig := (SemArray.scalar (sig.barrier 0 rfl) : Sems sig S_).sem
set_option backward.proofsInPublic true in
/-- The semaphore the `j`-th transfer out completes on. -/
def sendS (j : Fin 7) : DmaSem sig := ⟨3 + j.val, by have := j.isLt; show 3 + j.val < 18; omega⟩
set_option backward.proofsInPublic true in
/-- The semaphore the `j`-th transfer in completes on. -/
def recvS (j : Fin 7) : DmaSem sig := ⟨10 + j.val, by have := j.isLt; show 10 + j.val < 18; omega⟩
set_option backward.proofsInPublic true in
/-- The semaphore the local copy completes on. -/
def locS : DmaSem sig := ⟨17, by show 17 < 18; omega⟩

theorem slot_inb (j : Fin 7) : ∀ a, ![j.val] a + S1.size a ≤ S7.size a := by revert j; decide
theorem sendS_eq (j : Fin 7) (inb) :
    (((cc0_scratch3 : DmaSems sig S7).slice (Rect.unit (s := S7) ![j.val] S1.size inb)).squeeze S_ squeezes_S1_S_).sem = sendS j := by
  have h : ∀ j : Fin 7, (((cc0_scratch3 : DmaSems sig S7).slice (Rect.unit (s := S7) ![j.val] S1.size (slot_inb j))).squeeze S_ squeezes_S1_S_).sem = sendS j := by
    decide +kernel
  exact h j
theorem recvS_eq (j : Fin 7) (inb) :
    (((cc0_scratch4 : DmaSems sig S7).slice (Rect.unit (s := S7) ![j.val] S1.size inb)).squeeze S_ squeezes_S1_S_).sem = recvS j := by
  have h : ∀ j : Fin 7, (((cc0_scratch4 : DmaSems sig S7).slice (Rect.unit (s := S7) ![j.val] S1.size (slot_inb j))).squeeze S_ squeezes_S1_S_).sem = recvS j := by
    decide +kernel
  exact h j
theorem locS_eq : (cc0_scratch5 : DmaSems sig S_).sem = locS := rfl

/-- The kernel's semaphores on one device: the barrier's, the seven a transfer out completes on, the seven a transfer in
    completes on, and the local copy's. -/
abbrev Xfer : Type := Fin 7 ⊕ (Fin 7 ⊕ Unit)
abbrev Slot : Type := Unit ⊕ Xfer

abbrev osem : Xfer → SemLoc sig := fun | .inl j => .dma (sendS j) | .inr (.inl j) => .dma (recvS j) | .inr (.inr _) => .dma locS
abbrev csem : Slot → SemLoc sig := fun | .inl _ => .reg barS | .inr k => osem k

abbrev kcell (x : Dev nD × Slot) : GSem nD τ sig := ((x.1 : Thread nD τ), csem x.2)
abbrev barCell (c : Dev nD) : GSem nD τ sig := ((c : Thread nD τ), .reg barS)
abbrev sendCell (c : Dev nD) (j : Fin 7) : GSem nD τ sig := ((c : Thread nD τ), .dma (sendS j))
abbrev recvCell (c : Dev nD) (j : Fin 7) : GSem nD τ sig := ((c : Thread nD τ), .dma (recvS j))
abbrev locCell (c : Dev nD) : GSem nD τ sig := ((c : Thread nD τ), .dma locS)

set_option backward.proofsInPublic true in
/-- Which of the kernel's semaphores a semaphore is, if any. -/
def slotOf : SemLoc sig → Option Slot
  | .reg q => if q = barS then some (.inl ()) else none
  | .dma q =>
    if h : 3 ≤ q.val ∧ q.val < 10 then some (.inr (.inl ⟨q.val - 3, by omega⟩))
    else if h : 10 ≤ q.val ∧ q.val < 17 then some (.inr (.inr (.inl ⟨q.val - 10, by omega⟩)))
    else if q.val = 17 then some (.inr (.inr (.inr ()))) else none

theorem slotOf_csem : ∀ s : Slot, slotOf (csem s) = some s := by decide
theorem slotOf_bar : slotOf (.reg barS) = some (.inl ()) := slotOf_csem (.inl ())
theorem slotOf_send (j : Fin 7) : slotOf (.dma (sendS j)) = some (.inr (.inl j)) := slotOf_csem (.inr (.inl j))
theorem slotOf_recv (j : Fin 7) : slotOf (.dma (recvS j)) = some (.inr (.inr (.inl j))) := slotOf_csem (.inr (.inr (.inl j)))
theorem slotOf_loc : slotOf (.dma locS) = some (.inr (.inr (.inr ()))) := slotOf_csem (.inr (.inr (.inr ())))

/-! ## The blocks -/

/-- Column block `p` of `x_full`, as the kernel slices it. -/
abbrev colM (p : Dev nD) : Memref sig .tc .vmem S128x128 .bf16 :=
  (Memref.whole cc0_scratch1 : Memref sig .tc .vmem S128x1024 .bf16).slice (Rect.unit (s := S128x1024) (k0_off1 p) S128x128.size (k0_off1_inb p)) (fun _ => rfl)
/-- Row block `t` of `x_bf`, as the kernel slices it. -/
abbrev rowM (t : Dev nD) : Memref sig .tc .vmem S128x128 .bf16 :=
  (Memref.whole cc0_scratch0 : Memref sig .tc .vmem S1024x128 .bf16).slice (Rect.unit (s := S1024x128) (k0_off2 t) S128x128.size (k0_off2_inb t)) (fun _ => rfl)

/-- What a transfer of a block credits. -/
abbrev N : ℕ := (colM 0).view.dmaCredit
theorem N_pos : 0 < N := View.dmaCredit_pos _ (by decide)
/-- A wait naming a row block waits for the same amount. -/
theorem credit_row (t : Dev nD) : (rowM t).view.dmaCredit = N := rfl
theorem credit_col (t : Dev nD) : (colM t).view.dmaCredit = N := rfl

/-- The contents of `x_bf` and of `x_full`. -/
abbrev XB (F : FTy → Type) [FloatOps F] : Type := (cc0_scratch0 : Ref sig .tc).ty.Contents (Elt F)
abbrev XF (F : FTy → Type) [FloatOps F] : Type := (cc0_scratch1 : Ref sig .tc).ty.Contents (Elt F)

/-- Column block `p` of device `c`'s `x_full`, held at contents `f`. -/
def colPts (c p : Dev nD) (f : XF F) : sProp 𝕄 :=
  (colM p).view.loc (c : Thread nD τ) ↦[(colM p).view.set]{fullShare} f
/-- Row block `t` of device `c`'s `x_bf`, held at contents `f`. -/
def rowPts (c t : Dev nD) (f : XB F) : sProp 𝕄 :=
  (rowM t).view.loc (c : Thread nD τ) ↦[(rowM t).view.set]{fullShare} f

omit [FloatOps F] in
instance colPts_storable [FloatOps F] (c p : Dev nD) (f : XF F) : BI.Storable (upEmb : UEmb _ 𝕄) (colPts c p f) := by unfold colPts; infer_instance
omit [FloatOps F] in
instance rowPts_storable [FloatOps F] (c t : Dev nD) (f : XB F) : BI.Storable (upEmb : UEmb _ 𝕄) (rowPts c t f) := by unfold rowPts; infer_instance

theorem col_set (p : Dev nD) : (colM p).view.set = (Rect.unit (s := S128x1024) (k0_off1 p) S128x128.size (k0_off1_inb p)).set :=
  View.set_slice_whole _ _
theorem row_set (t : Dev nD) : (rowM t).view.set = (Rect.unit (s := S1024x128) (k0_off2 t) S128x128.size (k0_off2_inb t)).set :=
  View.set_slice_whole _ _

/-- The blocks' places in their buffers. -/
def colSet (p : Dev nD) : Finset S128x1024.Idx := (colM p).view.set
def rowSet (t : Dev nD) : Finset S1024x128.Idx := (rowM t).view.set

theorem col_disjoint (p p' : Dev nD) (h : p ≠ p') : Disjoint (colM p).view.set (colM p').view.set := by
  rw [col_set, col_set]
  exact Ring.lead_disjoint (s := S128x1024) 1 128 k0_off1 S128x128.size k0_off1_inb (fun b => by rw [k0_off1_eq]; rfl) rfl p p' h
theorem col_cover : (Finset.univ : Finset (Dev nD)).biUnion colSet = Finset.univ := by
  have h := Ring.lead_cover (s := S128x1024) 1 128 k0_off1 S128x128.size k0_off1_inb (fun b => by rw [k0_off1_eq]; rfl)
    (fun b a ha => by rw [k0_off1_eq]; revert a; rw [Fin.forall_fin_two]; exact ⟨fun _ => rfl, fun h => absurd rfl h⟩) rfl
    (fun a ha => by revert a; rw [Fin.forall_fin_two]; exact ⟨fun _ => rfl, fun h => absurd rfl h⟩) rfl
  rw [Finset.eq_univ_iff_forall] at h ⊢
  intro i
  obtain ⟨b, hb, hi⟩ := Finset.mem_biUnion.mp (h i)
  exact Finset.mem_biUnion.mpr ⟨b, hb, by unfold colSet; rw [col_set]; exact hi⟩
theorem row_disjoint (t t' : Dev nD) (h : t ≠ t') : Disjoint (rowM t).view.set (rowM t').view.set := by
  rw [row_set, row_set]
  exact Ring.lead_disjoint (s := S1024x128) 0 128 k0_off2 S128x128.size k0_off2_inb (fun b => by rw [k0_off2_eq]; rfl) rfl t t' h
theorem row_cover : (Finset.univ : Finset (Dev nD)).biUnion rowSet = Finset.univ := by
  have h := Ring.lead_cover (s := S1024x128) 0 128 k0_off2 S128x128.size k0_off2_inb (fun b => by rw [k0_off2_eq]; rfl)
    (fun b a ha => by rw [k0_off2_eq]; revert a; rw [Fin.forall_fin_two]; exact ⟨fun h => absurd rfl h, fun _ => rfl⟩) rfl
    (fun a ha => by revert a; rw [Fin.forall_fin_two]; exact ⟨fun h => absurd rfl h, fun _ => rfl⟩) rfl
  rw [Finset.eq_univ_iff_forall] at h ⊢
  intro i
  obtain ⟨b, hb, hi⟩ := Finset.mem_biUnion.mp (h i)
  exact Finset.mem_biUnion.mpr ⟨b, hb, by unfold rowSet; rw [row_set]; exact hi⟩
/-- `x_full` whole is its own device's column block and the seven others. -/
theorem col_split (c : Dev nD) (f : XF F) :
    (((c : Thread nD τ).loc cc0_scratch1) ↦{fullShare} f : sProp 𝕄)
      = iprop(colPts c c f ∗ bigSep Finset.univ fun j : Fin 7 => colPts c (fwd c j) f) := by
  rw [Ring.pointsTo_blocks (Val := Elt F) (ℓ := (c : Thread nD τ).loc cc0_scratch1) colSet col_disjoint col_cover f]
  exact ring_split c fun p => colPts c p f
/-- The same, the others counted backwards. -/
theorem col_split_bwd (c : Dev nD) (f : XF F) :
    (((c : Thread nD τ).loc cc0_scratch1) ↦{fullShare} f : sProp 𝕄)
      = iprop(colPts c c f ∗ bigSep Finset.univ fun j : Fin 7 => colPts c (bwd c j) f) := by
  rw [Ring.pointsTo_blocks (Val := Elt F) (ℓ := (c : Thread nD τ).loc cc0_scratch1) colSet col_disjoint col_cover f]
  exact ring_split_bwd c fun p => colPts c p f
/-- `x_bf` whole is its own device's row block and the seven others. -/
theorem row_split (c : Dev nD) (f : XB F) :
    (((c : Thread nD τ).loc cc0_scratch0) ↦{fullShare} f : sProp 𝕄)
      = iprop(rowPts c c f ∗ bigSep Finset.univ fun j : Fin 7 => rowPts c (fwd c j) f) := by
  rw [Ring.pointsTo_blocks (Val := Elt F) (ℓ := (c : Thread nD τ).loc cc0_scratch0) rowSet row_disjoint row_cover f]
  exact ring_split c fun t => rowPts c t f

/-! ## What the transfers leave -/

set_option backward.proofsInPublic true in
/-- The place of `x_bf` that holds, on device `p`, entry `(i, 128 p + k)` of device `c`'s `x_full`: row `128 c + i`,
    column `k`. -/
def srcIdx (c : Dev nD) (i : S128x1024.Idx) : S1024x128.Idx :=
  fun | ⟨0, _⟩ => ⟨128 * c.val + (i 0).val, by have h := (i 0).isLt; have hc : c.val < 8 := c.isLt; change (i 0).val < 128 at h; show _ < 1024; omega⟩
      | ⟨1, _⟩ => ⟨(i 1).val % 128, Nat.mod_lt _ (by decide)⟩
      | ⟨_ + 2, h⟩ => absurd h (Nat.not_lt.2 (Nat.le_add_left _ _))
set_option backward.proofsInPublic true in
/-- The device an entry of `x_full` comes from. -/
def srcDev (i : S128x1024.Idx) : Dev nD :=
  ⟨(i 1).val / 128, by have h := (i 1).isLt; change (i 1).val < 1024 at h; show _ < 8; omega⟩

/-- What device `c` gathers out of the devices' `x_bf`. -/
def full (X : Dev nD → XB F) (c : Dev nD) : XF F := fun i => X (srcDev i) (srcIdx c i)

/-- Row block `t` of device `p`, written into column block `p` of device `t`, is what that block is to hold. -/
theorem landed (X : Dev nD → XB F) (p t : Dev nD) (fd : XF F) :
    ∀ i ∈ (colM p).view.set, (colM p).view.write (Elt F) fd ((rowM t).view.read (Elt F) (X p)) Finset.univ i = full X t i := by
  intro i hi
  obtain ⟨y, -, rfl⟩ := Finset.mem_map.mp hi
  rw [View.write_emb_of_mem _ _ (Finset.mem_univ y), View.read_apply]
  have e0 : (((colM p).view.emb y) 0).val = (y 0).val := by
    show k0_off1 p 0 + 1 * (y 0).val = _
    rw [k0_off1_eq]; show 0 + 1 * (y 0).val = _; omega
  have e1 : (((colM p).view.emb y) 1).val = 128 * p.val + (y 1).val := by
    show k0_off1 p 1 + 1 * (y 1).val = _
    rw [k0_off1_eq]; show 128 * p.val + 1 * (y 1).val = _; omega
  have hy : (y 1).val < 128 := (y 1).isLt
  have hd : srcDev ((colM p).view.emb y) = p := Fin.ext (by show (((colM p).view.emb y) 1).val / 128 = _; rw [e1]; omega)
  have hs : srcIdx t ((colM p).view.emb y) = (rowM t).view.emb y := by
    funext a; revert a; rw [Fin.forall_fin_two]
    refine ⟨Fin.ext ?_, Fin.ext ?_⟩
    · show 128 * t.val + (((colM p).view.emb y) 0).val = k0_off2 t 0 + 1 * (y 0).val
      rw [e0, k0_off2_eq]; show _ = 128 * t.val + 1 * (y 0).val; omega
    · show (((colM p).view.emb y) 1).val % 128 = k0_off2 t 1 + 1 * (y 1).val
      rw [e1, k0_off2_eq]; show _ = 0 + 1 * (y 1).val; omega
  show X p ((rowM t).view.emb y) = X (srcDev ((colM p).view.emb y)) (srcIdx t ((colM p).view.emb y))
  rw [hd, hs]

/-- The block so written, held. -/
theorem landed_pts (X : Dev nD → XB F) (p t : Dev nD) (fd : XF F) :
    ((colM p).view.loc (t : Thread nD τ) ↦[(colM p).view.set]{fullShare}
        ((colM p).view.write (Elt F) fd ((rowM t).view.read (Elt F) (X p)) Finset.univ) : sProp 𝕄) = colPts t p (full X t) :=
  pointsTo_congr (landed X p t fd)

end Cert.KernelIdealProof
-- ==== Proof.KernelIdeal.Protocol.lean ====
/-
# The protocol of the exchange

Every device raises the barrier semaphore of each other device, handing over the column block of its own `x_full` that
the other is to write; after the barrier it holds its column block on all seven others, and sends. A transfer in hands
the receiver the written block, a transfer out hands the sender its row block back. This module states that schedule of
duties, what each device owes at the start, and the order in which the semaphores may be waited on.
-/
module

public import proofs.«01_k».proof.Proof.KernelIdeal.Blocks

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The index sets of a loop over the seven others -/

/-- The steps not taken yet after the first `k`. -/
def hi (k : ℕ) : Finset (Fin 7) := Finset.univ.filter fun j => k ≤ j.val
/-- The steps taken among the first `k`. -/
def lo (k : ℕ) : Finset (Fin 7) := Finset.univ.filter fun j => j.val < k

theorem hi_zero : hi 0 = Finset.univ := by decide
theorem hi_end : hi 7 = ∅ := by decide
theorem lo_zero : lo 0 = ∅ := by decide
theorem lo_end : lo 7 = Finset.univ := by decide
theorem hi_step (j : Fin 7) : hi j.val = insert j (hi (j.val + 1)) := by revert j; decide
theorem hi_not (j : Fin 7) : j ∉ hi (j.val + 1) := by revert j; decide
theorem lo_step (j : Fin 7) : lo (j.val + 1) = insert j (lo j.val) := by revert j; decide
theorem lo_not (j : Fin 7) : j ∉ lo j.val := by revert j; decide

section Loops
variable {M : Type} [URA M] (Φ : Fin 7 → sProp M)

/-- The factor of the step about to be taken, and the rest. -/
theorem hi_pop (j : Fin 7) : bigSep (hi j.val) Φ = iprop(Φ j ∗ bigSep (hi (j.val + 1)) Φ) := by
  rw [hi_step j, bigSep_insert (hi_not j)]; rfl
/-- The factor of the step just taken, and those before. -/
theorem lo_push (j : Fin 7) : bigSep (lo (j.val + 1)) Φ = iprop(Φ j ∗ bigSep (lo j.val) Φ) := by
  rw [lo_step j, bigSep_insert (lo_not j)]; rfl
theorem hi_start : bigSep (hi 0) Φ = bigSep Finset.univ Φ := by rw [hi_zero]
theorem hi_done : bigSep (hi 7) Φ = iprop(emp) := by rw [hi_end]; rfl
theorem lo_start : bigSep (lo 0) Φ = iprop(emp) := by rw [lo_zero]; rfl
theorem lo_done : bigSep (lo 7) Φ = bigSep Finset.univ Φ := by rw [lo_end]

end Loops

/-! ## The schedule -/

variable (X : Dev nD → XB F)

/-- What device `bwd c j`'s signal hands device `c`: its own column block `c`, at some contents. -/
def barPay (c : Dev nD) (j : Fin 7) : sProp 𝕄 := iprop(∃ f, colPts (bwd c j) c f)
/-- What a landed transfer in hands: the column block it wrote, at what it is to hold. -/
def recvPay (c : Dev nD) (j : Fin 7) : sProp 𝕄 := colPts c (bwd c j) (full X c)
/-- What a landed transfer out hands: the row block it read. -/
def sendPay (c : Dev nD) (j : Fin 7) : sProp 𝕄 := rowPts c (fwd c j) (X c)
/-- What the landed local copy hands: the block it wrote and the block it read. -/
def locPay (c : Dev nD) : sProp 𝕄 := iprop(colPts c c (full X c) ∗ rowPts c c (X c))

/-- What the semaphores hand over, one by one. -/
def slotPay (c : Dev nD) (d : Fin 7) : Option Slot → sProp 𝕄
  | some (.inl _) => barPay c d
  | some (.inr (.inl j)) => sendPay X c j
  | some (.inr (.inr (.inl j))) => recvPay X c j
  | some (.inr (.inr (.inr _))) => locPay X c
  | none => iprop(emp)
/-- The duties of each: seven at the barrier, one at a transfer. -/
def slotDuties : Option Slot → Finset (Fin 7)
  | some (.inl _) => Finset.univ
  | some (.inr _) => {0}
  | none => ∅
/-- The amount of a duty: a unit at the barrier, a block's credit at a transfer. -/
def slotAmount : Option Slot → ℕ
  | some (.inl _) => 1
  | _ => N

/-- One round per semaphore. -/
def ringRd : Rounds.Schedule (GSem nD τ sig) (Fin 7) 𝕄 where
  duties g r := if r = 0 ∧ g.1.2 = .tc then slotDuties (slotOf g.2) else ∅
  unitless _ := False
  amount g _ _ := slotAmount (slotOf g.2)
  payload g _ d := slotPay X g.1.1 d (slotOf g.2)
  amount_pos g _ _ _ := by
    unfold slotAmount; split
    · exact Nat.one_pos
    · exact N_pos

instance ringRd_payload_storable (g : GSem nD τ sig) (r : ℕ) (d : Fin 7) :
    BI.Storable (upEmb : UEmb _ 𝕄) ((ringRd X).payload g r d) := by
  show BI.Storable upEmb (slotPay X g.1.1 d (slotOf g.2))
  unfold slotPay barPay sendPay recvPay locPay
  split <;> infer_instance

theorem duties_cell (c : Dev nD) (s : Slot) : (ringRd X).duties (kcell (c, s)) 0 = slotDuties (some s) := by
  show (if 0 = 0 ∧ (kcell (c, s)).1.2 = .tc then slotDuties (slotOf (csem s)) else ∅) = _
  rw [if_pos ⟨rfl, rfl⟩, slotOf_csem]
theorem duties_later (g : GSem nD τ sig) : ∀ r, 1 ≤ r → (ringRd X).duties g r = ∅ :=
  fun r hr => if_neg fun h => by omega
theorem amount_cell (c : Dev nD) (s : Slot) (d : Fin 7) : (ringRd X).amount (kcell (c, s)) 0 d = slotAmount (some s) := by
  show slotAmount (slotOf (csem s)) = _
  rw [slotOf_csem]
theorem payload_cell (c : Dev nD) (s : Slot) (d : Fin 7) : (ringRd X).payload (kcell (c, s)) 0 d = slotPay X c d (some s) := by
  show slotPay X c d (slotOf (csem s)) = _
  rw [slotOf_csem]
theorem expect_bar (c : Dev nD) : (ringRd X).expect (barCell c) 0 = 7 := by
  unfold Schedule.expect Schedule.amountOf
  rw [duties_cell X c (.inl ()), Finset.sum_congr rfl fun d _ => amount_cell X c (.inl ()) d]
  rfl
theorem expect_xfer (c : Dev nD) (k : Xfer) : (ringRd X).expect (kcell (c, .inr k)) 0 = N := by
  unfold Schedule.expect Schedule.amountOf
  rw [duties_cell X c (.inr k)]
  show ∑ d ∈ ({0} : Finset (Fin 7)), _ = N
  rw [Finset.sum_singleton, amount_cell X c (.inr k)]
  rfl
theorem rest_bar (c : Dev nD) :
    bigSep ((ringRd X).duties (barCell c) 0 \ ∅) (fun d => (ringRd X).payload (barCell c) 0 d) = bigSep Finset.univ fun j => barPay (F := F) c j := by
  rw [Finset.sdiff_empty, duties_cell X c (.inl ())]
  exact bigSep_congr fun j _ => payload_cell X c (.inl ()) j
theorem rest_xfer (c : Dev nD) (k : Xfer) :
    bigSep ((ringRd X).duties (kcell (c, .inr k)) 0 \ ∅) (fun d => (ringRd X).payload (kcell (c, .inr k)) 0 d) = slotPay X c 0 (some (.inr k)) := by
  rw [Finset.sdiff_empty, duties_cell X c (.inr k)]
  show bigSep ({0} : Finset (Fin 7)) _ = _
  rw [bigSep_singleton, payload_cell X c (.inr k)]

/-! ## What each device owes, and the order of the waits -/

/-- After `k` transfers: the credits of the transfers to come. -/
def Or (c : Dev nD) (k : ℕ) : CellTallies nD τ sig Unit := ∑ j ∈ hi k, tallyAt (recvCell (fwd c j) j) () N
/-- After `k` signals: the transfers' credits and the signals to come. -/
def Os (c : Dev nD) (k : ℕ) : CellTallies nD τ sig Unit := Or c 0 + ∑ j ∈ hi k, tallyAt (barCell (fwd c j)) () 1

theorem Or_step (c : Dev nD) (j : Fin 7) : Or c j.val = Or c (j.val + 1) + tallyAt (recvCell (fwd c j) j) () N := by
  unfold Or; rw [hi_step j, Finset.sum_insert (hi_not j), add_comm]
theorem Or_end (c : Dev nD) : Or c 7 = 0 := by unfold Or; rw [hi_end]; rfl
theorem Os_step (c : Dev nD) (j : Fin 7) : Os c j.val = Os c (j.val + 1) + tallyAt (barCell (fwd c j)) () 1 := by
  unfold Os; rw [hi_step j, Finset.sum_insert (hi_not j), add_assoc, add_comm (tallyAt _ _ _)]
theorem Os_end (c : Dev nD) : Os c 7 = Or c 0 := by unfold Os; rw [hi_end, Finset.sum_empty, add_zero]

/-- A sum of tallies is positive only at a cell of one of them. -/
theorem sum_tally_pos {S : Finset (Fin 7)} {cell : Fin 7 → GSem nD τ sig} {k : ℕ} {g : GSem nD τ sig} {u : Unit}
    (h : 0 < (∑ j ∈ S, tallyAt (cell j) () k : CellTallies nD τ sig Unit) g u) : ∃ j, g = cell j := by
  rw [Finset.sum_apply, Finsupp.finset_sum_apply] at h
  obtain ⟨j, -, hj⟩ := Finset.exists_ne_zero_of_sum_ne_zero (Nat.pos_iff_ne_zero.mp h)
  rw [tallyAt_apply] at hj
  by_contra hn
  exact hj (if_neg fun h' => hn ⟨j, h'.1⟩)

theorem Or_pos {c : Dev nD} {k : ℕ} {g : GSem nD τ sig} {u : Unit} (h : 0 < Or c k g u) : ∃ j, g = recvCell (fwd c j) j := sum_tally_pos h
theorem Os_pos {c : Dev nD} {k : ℕ} {g : GSem nD τ sig} {u : Unit} (h : 0 < Os c k g u) :
    (∃ j, g = recvCell (fwd c j) j) ∨ ∃ j, g = barCell (fwd c j) := by
  unfold Os at h
  rw [Pi.add_apply, Finsupp.add_apply] at h
  rcases Nat.eq_zero_or_pos (Or c 0 g u) with h0 | h0
  · rw [h0, Nat.zero_add] at h; exact .inr (sum_tally_pos h)
  · exact .inl (Or_pos h0)

def L (g : GSem nD τ sig) : Finset Unit := if g.1.2 = .tc then {()} else ∅
/-- The barrier below the transfers in; everything else below both. -/
def slotLv : Option Slot → ℕ
  | some (.inl _) => 1
  | some (.inr (.inr (.inl _))) => 2
  | _ => 0
def lv (g : GSem nD τ sig) (_ : Unit) : ℕ := slotLv (slotOf g.2)

theorem L_of_ne (g : GSem nD τ sig) (h : g.1.2 ≠ .tc) : L g = ∅ := if_neg h
theorem L_tc (c : Dev nD) (sm : SemLoc sig) : L ((c : Thread nD τ), sm) = {()} := if_pos rfl
theorem mem_L (c : Dev nD) (sm : SemLoc sig) (u : Unit) : u ∈ L ((c : Thread nD τ), sm) := by rw [L_tc]; exact Finset.mem_singleton_self _
theorem lv_bar (c : Dev nD) (u : Unit) : lv (barCell c) u = 1 := by show slotLv (slotOf (.reg barS)) = 1; rw [slotOf_bar]; rfl
theorem lv_recv (c : Dev nD) (j : Fin 7) (u : Unit) : lv (recvCell c j) u = 2 := by show slotLv (slotOf (.dma (recvS j))) = 2; rw [slotOf_recv]; rfl

/-- A device that owes what it owes at the start, or nothing, may wait on a semaphore outside the exchange. -/
theorem mayWait_stage (c : Dev nD) (q : SemLoc sig) (hq : slotOf q = none) (O : CellTallies nD τ sig Unit) (hO : O = Os c 0 ∨ O = 0) :
    (levAts L lv : sProp 𝕄) ⊢ MayWait (c : Thread nD τ) q () O := by
  rcases hO with rfl | rfl
  · refine MayOwe.of_cut (L := L) (lev := lv) 0 (fun p hp => by rw [Finset.mem_singleton.mp hp]; exact mem_L _ _ _)
      (fun g u hg => by rcases Os_pos hg with ⟨j, rfl⟩ | ⟨j, rfl⟩ <;> exact mem_L _ _ _)
      (fun p hp => by rw [Finset.mem_singleton.mp hp]; show slotLv (slotOf q) ≤ 0; rw [hq]; exact le_rfl)
      (fun g u hg => by
        rcases Os_pos hg with ⟨j, rfl⟩ | ⟨j, rfl⟩
        · rw [lv_recv]; decide
        · rw [lv_bar]; decide)
  · rw [MayWait_zero]; iintro -; iempintro

/-- At its barrier wait a device owes the transfers' credits only. -/
theorem mayWait_bar (c : Dev nD) : (levAts L lv : sProp 𝕄) ⊢ MayWait (c : Thread nD τ) (.reg barS) () (Or c 0) :=
  MayOwe.of_cut (L := L) (lev := lv) 1 (fun p hp => by rw [Finset.mem_singleton.mp hp]; exact mem_L _ _ _)
    (fun g u hg => by obtain ⟨j, rfl⟩ := Or_pos hg; exact mem_L _ _ _)
    (fun p hp => by rw [Finset.mem_singleton.mp hp]; exact (lv_bar c ()).le)
    (fun g u hg => by obtain ⟨j, rfl⟩ := Or_pos hg; rw [lv_recv]; decide)

/-! ## The cells' records -/

omit [FloatOps F] in
/-- One factor of a product. -/
theorem bigSep_at {I : Type} [Fintype I] [DecidableEq I] (Φ : I → sProp 𝕄) (i : I) : (bigSep Finset.univ Φ : sProp 𝕄) ⊢ Φ i :=
  bigSep_elim (Finset.mem_univ i)

/-- Every cell's invariant under the name `K` gives it, and that its round is reached. -/
def records (K : Dev nD × Slot → ℕ) : sProp 𝕄 :=
  iprop((bigSep Finset.univ fun x : Dev nD × Slot => cellInv ER (ringRd X) (K x) (kcell x))
    ∗ bigSep Finset.univ fun x : Dev nD × Slot => reached ER (kcell x) 0)

instance records_persistent (K : Dev nD × Slot → ℕ) : BI.Persistent (records X K) := by unfold records; infer_instance

theorem records_inv (K : Dev nD × Slot → ℕ) (x : Dev nD × Slot) : records X K ⊢ (cellInv ER (ringRd X) (K x) (kcell x) : sProp 𝕄) := by
  unfold records
  iintro ⟨H, -⟩
  iapply (bigSep_at (fun x : Dev nD × Slot => cellInv ER (ringRd X) (K x) (kcell x)) x); iexact H
theorem records_reached (K : Dev nD × Slot → ℕ) (x : Dev nD × Slot) : records X K ⊢ (reached ER (kcell x) 0 : sProp 𝕄) := by
  unfold records
  iintro ⟨-, H⟩
  iapply (bigSep_at (fun x : Dev nD × Slot => reached ER (kcell x) 0) x); iexact H

end Cert.KernelIdealProof
-- ==== Proof.KernelIdeal.Steps.lean ====
/-
# One step of each loop of the kernel

The kernel's body is five loops over the seven other devices, written out: signals, transfers out, waits for the
transfers in, waits for the transfers out. Each loop has a state — what the device holds after `k` of its seven steps —
and one theorem here takes it from `k` to `k + 1`, for every step and every device. The barrier wait, the local copy and
its wait are one step each.
-/
module

public import proofs.«01_k».proof.Proof.KernelIdeal.Protocol

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

variable (X : Dev nD → XB F) (K : Dev nD × Slot → ℕ)

/-- What device `c` owes, whatever waits it has recorded. -/
def owing (c : Dev nD) (O : CellTallies nD τ sig Unit) : sProp 𝕄 := iprop(∃ W, owes (c : Thread nD τ) O W)

/-- After `k` signals: the tokens and the column blocks of the signals to come. -/
def SigSt (c : Dev nD) (k : ℕ) : sProp 𝕄 :=
  iprop(owing c (Os c k) ∗ bigSep (hi k) fun j => iprop(dutyTok ER (barCell (fwd c j)) 0 j ∗ ∃ f, colPts c (fwd c j) f))

/-- After `k` transfers out: the tokens, row blocks and remote column blocks of those to come; the credits of those made. -/
def SendSt (c : Dev nD) (k : ℕ) : sProp 𝕄 :=
  iprop(owing c (Or c k)
    ∗ (bigSep (hi k) fun j => iprop(dutyTok ER (sendCell c j) 0 0 ∗ dutyTok ER (recvCell (fwd c j) j) 0 0 ∗ rowPts c (fwd c j) (X c)
        ∗ ∃ f, colPts (fwd c j) c f))
    ∗ bigSep (lo k) fun j => cred (tallyAt (sendCell c j) () N))

/-- After `k` waits for transfers in: the credits and positions of those to come; the blocks of those landed, their
    semaphores at zero. -/
def RecvSt (c : Dev nD) (k : ℕ) : sProp 𝕄 :=
  iprop(owing c 0
    ∗ (bigSep (hi k) fun j => iprop(cred (tallyAt (recvCell c j) () N) ∗ atPos ER (recvCell c j) 0 ∅ 0))
    ∗ bigSep (lo k) fun j => iprop(colPts c (bwd c j) (full X c) ∗ semVal (recvCell c j) 0))

/-- The same of the waits for the transfers out. -/
def DoneSt (c : Dev nD) (k : ℕ) : sProp 𝕄 :=
  iprop(owing c 0
    ∗ (bigSep (hi k) fun j => iprop(cred (tallyAt (sendCell c j) () N) ∗ atPos ER (sendCell c j) 0 ∅ 0))
    ∗ bigSep (lo k) fun j => iprop(rowPts c (fwd c j) (X c) ∗ semVal (sendCell c j) 0))

theorem duty_bar (c : Dev nD) (j : Fin 7) : j ∈ (ringRd X).duties (barCell c) 0 := by
  rw [duties_cell X c (.inl ())]; exact Finset.mem_univ _
theorem duty_xfer (c : Dev nD) (x : Xfer) : (0 : Fin 7) ∈ (ringRd X).duties (kcell (c, .inr x)) 0 := by
  rw [duties_cell X c (.inr x)]; exact Finset.mem_singleton_self _
theorem pay_bar (c : Dev nD) (j : Fin 7) :
    (ringRd X).payload (barCell (fwd c j)) 0 j = iprop(∃ f, colPts c (fwd c j) f) := by
  rw [payload_cell X (fwd c j) (.inl ())]
  show barPay (fwd c j) j = _
  unfold barPay; rw [bwd_fwd]
theorem pay_recv (c : Dev nD) (j : Fin 7) :
    (ringRd X).payload (recvCell (fwd c j) j) 0 0 = colPts (fwd c j) c (full X (fwd c j)) := by
  rw [payload_cell X (fwd c j) (.inr (.inr (.inl j)))]
  show recvPay X (fwd c j) j = _
  unfold recvPay; rw [bwd_fwd]
theorem pay_send (c : Dev nD) (j : Fin 7) : (ringRd X).payload (sendCell c j) 0 0 = rowPts c (fwd c j) (X c) :=
  payload_cell X c (.inr (.inl j)) 0
theorem pay_loc (c : Dev nD) : (ringRd X).payload (locCell c) 0 0 = iprop(colPts c c (full X c) ∗ rowPts c c (X c)) :=
  payload_cell X c (.inr (.inr (.inr ()))) 0

/-- What a wait for a transfer in, for one out, and for the local copy, hands over. -/
theorem rest_recv (c : Dev nD) (j : Fin 7) :
    bigSep ((ringRd X).duties (recvCell c j) 0 \ ∅) (fun d => (ringRd X).payload (recvCell c j) 0 d) = colPts c (bwd c j) (full X c) :=
  rest_xfer X c (.inr (.inl j))
theorem rest_send (c : Dev nD) (j : Fin 7) :
    bigSep ((ringRd X).duties (sendCell c j) 0 \ ∅) (fun d => (ringRd X).payload (sendCell c j) 0 d) = rowPts c (fwd c j) (X c) :=
  rest_xfer X c (.inl j)
theorem rest_loc (c : Dev nD) :
    bigSep ((ringRd X).duties (locCell c) 0 \ ∅) (fun d => (ringRd X).payload (locCell c) 0 d) = iprop(colPts c c (full X c) ∗ rowPts c c (X c)) :=
  rest_xfer X c (.inr (.inr ()))
theorem amount_col (c : Dev nD) (x : DmaSem sig) : (colM c).view.amount (.dma x) = N := credit_col c

section Steps

variable (c : Dev nD)

/-- The `j`-th signal. -/
theorem step_signal {α : Type} {Q : α → sProp 𝕄} {k : PUnit → Prog (TpuEff nD τ sig (Elt F) Λ₀ .tc) α} (j : Fin 7) (i i' : ℕ) (hj : j.val = i) (hi' : i + 1 = i') (n : Dev nD) (hn : n = fwd c j) :
    iprop(records X K ∗ SigSt c i)
      ⊢ iprop((SigSt c i' -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS (1#32).toInt) k) Q) := by
  subst hn hj hi'
  rw [show (1#32).toInt = ((1 : ℕ) : ℤ) from rfl]
  unfold SigSt owing
  rw [hi_pop]
  iintro ⟨#HR, ⟨%W, HO⟩, ⟨Htok, Hblk⟩, Hrest⟩ Hk
  iapply (Rounds.wp_signal 𝒱₀ ER (ringRd X) (c : Thread nD τ) none (dst := (fwd c j : Thread nD τ)) (κ := K (fwd c j, .inl ()))
      (d := j) (duty_bar X (fwd c j) j) (amount_cell X (fwd c j) (.inl ()) j) () (Os c (j.val + 1)) (Os_step c j) (W := W))
    $$ [HO Htok Hblk]
  · isplitr; · iapply (records_inv X K (fwd c j, .inl ())); iexact HR
    isplitl [HO]; · iexact HO
    isplitl [Htok]; · iexact Htok
    isplitl [Hblk]; · iapply (Entails.of_eq (pay_bar X c j).symm); iexact Hblk
    iapply (records_reached X K (fwd c j, .inl ())); iexact HR
  iintro HO
  iapply Hk
  isplitl [HO]; · iexists W; iexact HO
  iexact Hrest

/-- The barrier wait: each other device's column block `c` comes with it. -/
theorem step_barrier {α : Type} {Q : α → sProp 𝕄} {k : PUnit → Prog (TpuEff nD τ sig (Elt F) Λ₀ .tc) α} :
    iprop(records X K ∗ levAts L lv ∗ cred (tallyAt (barCell c) () 7) ∗ atPos ER (barCell c) 0 ∅ 0 ∗ owing c (Or c 0))
      ⊢ iprop(((owing c (Or c 0) ∗ semVal (barCell c) 0 ∗ bigSep Finset.univ fun j : Fin 7 => iprop(∃ f, colPts (fwd c j) c f))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (7#32).toInt) k) Q) := by
  rw [show (7#32).toInt = ((7 : ℕ) : ℤ) from rfl]
  unfold owing
  iintro ⟨#HR, #Hlev, Hc, Hat, ⟨%W, HO⟩⟩ Hk
  iapply (Rounds.wp_wait_rest_token 𝒱₀ ER (ringRd X) (c : Thread nD τ) none (κ := K (c, .inl ()))
      (wpE_semWait_eq 𝒱₀ (c : Thread nD τ) none Set.univ) (Set.mem_univ _) () (O := Or c 0) (W := W) (R := 0) (m := 0) (T := ∅)
      (by rw [expect_bar])) $$ [Hc HO Hat]
  · isplitr; · iapply (records_inv X K (c, .inl ())); iexact HR
    isplitl [Hc]; · iexact Hc
    isplitl [HO]; · iexact HO
    isplitr; · iapply (mayWait_bar c); iexact Hlev
    iexact Hat
  iintro ⟨HO, Hat, -, Hpay⟩
  imod (Rounds.cell_close ER (ringRd X) (Set.mem_univ (K (c, .inl ()))) (fun h => h) (R := 0 + 1) (duties_later X (barCell c))) $$ [Hat] with Hz
  · isplitr; · iapply (records_inv X K (c, .inl ())); iexact HR
    iexact Hat
  ihave Hp := (Entails.of_eq (rest_bar X c)) $$ Hpay
  iapply Hk
  isplitl [HO]; · iexists _; iexact HO
  isplitl [Hz]; · iexact Hz
  iapply (Entails.of_eq ((bigSep_univ_equiv Fin.revPerm (fun j : Fin 7 => barPay (F := F) c j)).trans
    (bigSep_congr fun j _ => by unfold barPay; rw [Fin.revPerm_apply, bwd_rev])))
  iexact Hp

/-- The `j`-th transfer out: row block `fwd c j` into column block `c` of device `fwd c j`. -/
theorem step_send {α : Type} {Q : α → sProp 𝕄} {k : PUnit → Prog (TpuEff nD τ sig (Elt F) Λ₀ .tc) α} (j : Fin 7) (i i' : ℕ) (hj : j.val = i) (hi' : i + 1 = i') (n : Dev nD) (hn : n = fwd c j)
    (off : Fin 2 → Nat) (hoff : off = k0_off2 (fwd c j)) {inb : ∀ a, off a + S128x128.size a ≤ S1024x128.size a}
    (sS rS : DmaSem sig) (hs : sS = sendS j) (hr : rS = recvS j)
    {hsc : (colM c : Memref sig (Dev.tc n : Thread nD τ).2.kind .vmem S128x128 .bf16).view.ref.isScScratch = false}
    {hsrc : ((Memref.whole cc0_scratch0 : Memref sig .tc .vmem S1024x128 .bf16).slice (Rect.unit (s := S1024x128) off S128x128.size inb) (fun _ => rfl)).view.WordExact}
    {hdst : (colM c : Memref sig (Dev.tc n : Thread nD τ).2.kind .vmem S128x128 .bf16).view.WordExact}
    {hsem : DmaTarget.Typed .vmem (.dma rS) (.remote (Dev.tc n : Thread nD τ) (colM c) (.dma sS) hsc)} :
    iprop(records X K ∗ SendSt X c i)
      ⊢ iprop((SendSt X c i' -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((Memref.whole cc0_scratch0 : Memref sig .tc .vmem S1024x128 .bf16).slice (Rect.unit (s := S1024x128) off S128x128.size inb) (fun _ => rfl))
                (.remote (Dev.tc n : Thread nD τ) (colM c) (.dma sS) hsc) (.dma rS) hsrc hdst hsem) k) Q) := by
  subst hn hj hi' hoff hs hr
  unfold SendSt owing
  rw [hi_pop, lo_push]
  iintro ⟨#HR, ⟨%W, HO⟩, ⟨⟨HtS, HtR, Hrow, %f, Hcol⟩, Hrest⟩, Hdone⟩ Hk
  unfold rowPts colPts
  iapply (Rounds.wp_send_pointsTo 𝒱₀ ER (ringRd X) (c : Thread nD τ) none (κ₁ := K (c, .inr (.inl j))) (κ₂ := K (fwd c j, .inr (.inr (.inl j))))
      (c' := (fwd c j : Thread nD τ)) (src := rowM (fwd c j)) (dst := colM c) (sS := .dma (sendS j)) (sem := .dma (recvS j))
      (r₁ := 0) (r₂ := 0) (d₁ := 0) (d₂ := 0) (q := fullShare) (fs := X c) (fd := f)
      (duty_xfer X c (.inl j)) (duty_xfer X (fwd c j) (.inr (.inl j)))
      () () N (amount_col c (recvS j)) (amount_cell X c (.inr (.inl j)) 0) (amount_cell X (fwd c j) (.inr (.inr (.inl j))) 0) (Or c (j.val + 1)) (Or_step c j) (W := W)
      (Entails.of_eq (pay_send X c j).symm)
      (Entails.of_eq ((landed_pts X c (fwd c j) f).trans (pay_recv X c j).symm))) $$ [HO HtS HtR Hrow Hcol]
  · isplitr; · iapply (records_inv X K (c, .inr (.inl j))); iexact HR
    isplitr; · iapply (records_inv X K (fwd c j, .inr (.inr (.inl j)))); iexact HR
    isplitl [Hrow]; · iexact Hrow
    isplitl [Hcol]; · iexact Hcol
    isplitl [HO]; · iexact HO
    isplitl [HtS]; · iexact HtS
    isplitr; · iapply (records_reached X K (c, .inr (.inl j))); iexact HR
    isplitl [HtR]; · iexact HtR
    iapply (records_reached X K (fwd c j, .inr (.inr (.inl j)))); iexact HR
  iintro ⟨Hc, HO⟩
  iapply Hk
  isplitl [HO]; · iexists W; iexact HO
  isplitl [Hrest]; · iexact Hrest
  isplitl [Hc]; · iexact Hc
  iexact Hdone

/-- The wait for the `j`-th transfer in. -/
theorem step_recv {α : Type} {Q : α → sProp 𝕄} {k : PUnit → Prog (TpuEff nD τ sig (Elt F) Λ₀ .tc) α} (j : Fin 7) (i i' : ℕ) (hj : j.val = i) (hi' : i + 1 = i') (rS : DmaSem sig) (hr : rS = recvS j)
    {off : Fin 2 → Nat} {inb : ∀ a, off a + S128x128.size a ≤ S128x1024.size a} {src : Memref sig .tc .vmem S128x128 .bf16} {hsrc : src.view.WordExact}
    {hdst : ((Memref.whole cc0_scratch1 : Memref sig .tc .vmem S128x1024 .bf16).slice (Rect.unit (s := S128x1024) off S128x128.size inb) (fun _ => rfl)).view.WordExact} :
    iprop(records X K ∗ RecvSt X c i)
      ⊢ iprop((RecvSt X c i' -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 rS src ((Memref.whole cc0_scratch1 : Memref sig .tc .vmem S128x1024 .bf16).slice (Rect.unit (s := S128x1024) off S128x128.size inb) (fun _ => rfl)) hsrc hdst) k) Q) := by
  subst hj hi' hr
  unfold RecvSt owing
  rw [hi_pop, lo_push]
  iintro ⟨#HR, ⟨%W, HO⟩, ⟨⟨Hc, Hat⟩, Hrest⟩, Hdone⟩ Hk
  iapply (Rounds.wp_wait_rest_token 𝒱₀ ER (ringRd X) (c : Thread nD τ) none (κ := K (c, .inr (.inr (.inl j)))) (k' := N)
      (wpE_waitDma2_eq 𝒱₀ (c : Thread nD τ) none Set.univ (src := src) (dst := (Memref.whole cc0_scratch1 : Memref sig .tc .vmem S128x1024 .bf16).slice (Rect.unit (s := S128x1024) off S128x128.size inb) (fun _ => rfl)) (hsrc := hsrc) (hdst := hdst)) (Set.mem_univ _) () (O := 0) (W := W) (R := 0) (m := 0) (T := ∅)
      (by rw [Nat.zero_add]; exact (expect_xfer X c (.inr (.inl j))).symm)) $$ [Hc HO Hat]
  · isplitr; · iapply (records_inv X K (c, .inr (.inr (.inl j)))); iexact HR
    isplitl [Hc]; · iexact Hc
    isplitl [HO]; · iexact HO
    isplitr; · rw [MayWait_zero]; iempintro
    iexact Hat
  iintro ⟨HO, Hat, -, Hpay⟩
  imod (Rounds.cell_close ER (ringRd X) (Set.mem_univ (K (c, .inr (.inr (.inl j))))) (fun h => h) (R := 0 + 1) (duties_later X (recvCell c j))) $$ [Hat] with Hz
  · isplitr; · iapply (records_inv X K (c, .inr (.inr (.inl j)))); iexact HR
    iexact Hat
  ihave Hp := (Entails.of_eq (rest_recv X c j)) $$ Hpay
  iapply Hk
  isplitl [HO]; · iexists _; iexact HO
  isplitl [Hrest]; · iexact Hrest
  isplitl [Hp Hz]
  · isplitl [Hp]; · iexact Hp
    iexact Hz
  iexact Hdone

/-- The wait for the `j`-th transfer out. -/
theorem step_done {α : Type} {Q : α → sProp 𝕄} {k : PUnit → Prog (TpuEff nD τ sig (Elt F) Λ₀ .tc) α} (j : Fin 7) (i i' : ℕ) (hj : j.val = i) (hi' : i + 1 = i') (sS : DmaSem sig) (hs : sS = sendS j)
    {off : Fin 2 → Nat} {inb : ∀ a, off a + S128x128.size a ≤ S1024x128.size a} {src : Memref sig .tc .vmem S128x128 .bf16} {hsrc : src.view.WordExact}
    {hdst : ((Memref.whole cc0_scratch0 : Memref sig .tc .vmem S1024x128 .bf16).slice (Rect.unit (s := S1024x128) off S128x128.size inb) (fun _ => rfl)).view.WordExact} :
    iprop(records X K ∗ DoneSt X c i)
      ⊢ iprop((DoneSt X c i' -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 sS src ((Memref.whole cc0_scratch0 : Memref sig .tc .vmem S1024x128 .bf16).slice (Rect.unit (s := S1024x128) off S128x128.size inb) (fun _ => rfl)) hsrc hdst) k) Q) := by
  subst hj hi' hs
  unfold DoneSt owing
  rw [hi_pop, lo_push]
  iintro ⟨#HR, ⟨%W, HO⟩, ⟨⟨Hc, Hat⟩, Hrest⟩, Hdone⟩ Hk
  iapply (Rounds.wp_wait_rest_token 𝒱₀ ER (ringRd X) (c : Thread nD τ) none (κ := K (c, .inr (.inl j))) (k' := N)
      (wpE_waitDma2_eq 𝒱₀ (c : Thread nD τ) none Set.univ (src := src) (dst := (Memref.whole cc0_scratch0 : Memref sig .tc .vmem S1024x128 .bf16).slice (Rect.unit (s := S1024x128) off S128x128.size inb) (fun _ => rfl)) (hsrc := hsrc) (hdst := hdst)) (Set.mem_univ _) () (O := 0) (W := W) (R := 0) (m := 0) (T := ∅)
      (by rw [Nat.zero_add]; exact (expect_xfer X c (.inl j)).symm)) $$ [Hc HO Hat]
  · isplitr; · iapply (records_inv X K (c, .inr (.inl j))); iexact HR
    isplitl [Hc]; · iexact Hc
    isplitl [HO]; · iexact HO
    isplitr; · rw [MayWait_zero]; iempintro
    iexact Hat
  iintro ⟨HO, Hat, -, Hpay⟩
  imod (Rounds.cell_close ER (ringRd X) (Set.mem_univ (K (c, .inr (.inl j)))) (fun h => h) (R := 0 + 1) (duties_later X (sendCell c j))) $$ [Hat] with Hz
  · isplitr; · iapply (records_inv X K (c, .inr (.inl j))); iexact HR
    iexact Hat
  ihave Hp := (Entails.of_eq (rest_send X c j)) $$ Hpay
  iapply Hk
  isplitl [HO]; · iexists _; iexact HO
  isplitl [Hrest]; · iexact Hrest
  isplitl [Hp Hz]
  · isplitl [Hp]; · iexact Hp
    iexact Hz
  iexact Hdone

/-- The local copy: the device's own row block into its own column block. -/
theorem step_copy {α : Type} {Q : α → sProp 𝕄} {k : PUnit → Prog (TpuEff nD τ sig (Elt F) Λ₀ .tc) α} {lS : DmaSem sig} (hl : lS = locS)
    {hsrc : (rowM c).view.WordExact} {hdst : (colM c).view.WordExact} {hsem : DmaTarget.Typed (nD := nD) (τ := τ) (p := .tc) .vmem (.dma lS) (.here (colM c))} :
    iprop(records X K ∗ rowPts c c (X c) ∗ (∃ f, colPts c c f) ∗ dutyTok ER (locCell c) 0 0)
      ⊢ iprop((cred (tallyAt (locCell c) () N) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowM c) (.here (colM c)) (.dma lS) hsrc hdst hsem) k) Q) := by
  subst hl
  iintro ⟨#HR, Hrow, ⟨%f, Hcol⟩, Htok⟩ Hk
  unfold rowPts colPts
  iapply (Rounds.wp_copy_pointsTo 𝒱₀ ER (ringRd X) (c : Thread nD τ) none (κ := K (c, .inr (.inr (.inr ())))) (src := rowM c) (dst := colM c) (sem := .dma locS) (r := 0) (d := 0) (q := fullShare) (fs := X c) (fd := f)
      (duty_xfer X c (.inr (.inr ()))) () N (amount_col c locS)
      (amount_cell X c (.inr (.inr (.inr ()))) 0)
      (Entails.of_eq ((congrArg (fun P : sProp 𝕄 => iprop(P ∗ rowPts c c (X c))) (landed_pts X c c f)).trans (pay_loc X c).symm))) $$ [Hrow Hcol Htok]
  · isplitr; · iapply (records_inv X K (c, .inr (.inr (.inr ())))); iexact HR
    isplitl [Hrow]; · iexact Hrow
    isplitl [Hcol]; · iexact Hcol
    isplitl [Htok]; · iexact Htok
    iapply (records_reached X K (c, .inr (.inr (.inr ())))); iexact HR
  iexact Hk

/-- The wait for the local copy. -/
theorem step_local {α : Type} {Q : α → sProp 𝕄} {k : PUnit → Prog (TpuEff nD τ sig (Elt F) Λ₀ .tc) α} {lS : DmaSem sig} (hl : lS = locS) {src : Memref sig .tc .vmem S128x128 .bf16} {hsrc : src.view.WordExact}
    {hdst : (colM c).view.WordExact} :
    iprop(records X K ∗ cred (tallyAt (locCell c) () N) ∗ atPos ER (locCell c) 0 ∅ 0 ∗ owing c 0)
      ⊢ iprop(((owing c 0 ∗ semVal (locCell c) 0 ∗ colPts c c (full X c) ∗ rowPts c c (X c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 lS src (colM c) hsrc hdst) k) Q) := by
  subst hl
  unfold owing
  iintro ⟨#HR, Hc, Hat, ⟨%W, HO⟩⟩ Hk
  iapply (Rounds.wp_wait_rest_token 𝒱₀ ER (ringRd X) (c : Thread nD τ) none (κ := K (c, .inr (.inr (.inr ())))) (k' := N)
      (wpE_waitDma2_eq 𝒱₀ (c : Thread nD τ) none Set.univ (src := src) (dst := colM c) (hsrc := hsrc) (hdst := hdst)) (Set.mem_univ _) () (O := 0) (W := W) (R := 0) (m := 0) (T := ∅)
      (by rw [Nat.zero_add]; exact (expect_xfer X c (.inr (.inr ()))).symm)) $$ [Hc HO Hat]
  · isplitr; · iapply (records_inv X K (c, .inr (.inr (.inr ())))); iexact HR
    isplitl [Hc]; · iexact Hc
    isplitl [HO]; · iexact HO
    isplitr; · rw [MayWait_zero]; iempintro
    iexact Hat
  iintro ⟨HO, Hat, -, Hpay⟩
  imod (Rounds.cell_close ER (ringRd X) (Set.mem_univ (K (c, .inr (.inr (.inr ()))))) (fun h => h) (R := 0 + 1) (duties_later X (locCell c))) $$ [Hat] with Hz
  · isplitr; · iapply (records_inv X K (c, .inr (.inr (.inr ())))); iexact HR
    iexact Hat
  ihave Hp := (Entails.of_eq (rest_loc X c)) $$ Hpay
  iapply Hk
  isplitl [HO]; · iexists _; iexact HO
  isplitl [Hz]; · iexact Hz
  iexact Hp

end Steps

end Cert.KernelIdealProof
-- ==== Proof.KernelIdeal.Body.lean ====
/-
# The kernel's body on one device

The body is executed symbolically: from what the launch gives the device to what the device leaves, one step theorem per
operation. On the way the device's `x_bf` holds its block of `x`, its `x_full` gathers the row blocks of every device,
and its output is the product of what it gathered with `w`, times the logistic of it.
-/
module

public import proofs.«01_k».proof.Proof.KernelIdeal.Steps
public import proofs.«01_k».proof.Proof.Gen.KernelIdeal.Points

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The state the program starts in. -/
def s₀ : MemSt nD τ sig (Elt F) := ⟨m, fun _ => 0, ρ⟩

/-- What the pipeline stages of `x` and of `w` on device `c`. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))

/-- What device `c`'s `x_bf` and `w_bf` hold, and what it computes. -/
def xb (c : Dev nD) : XB F := k0_pay2 (k0_pay1 (xstg m ρ c))
def wb (c : Dev nD) : (cc0_scratch2 : Ref sig .tc).ty.Contents (Elt F) := k0_pay3 (wstg m ρ c)
def outAt (c : Dev nD) : (cc0_stg2_0 : Ref sig .tc).ty.Contents (Elt F) := k0_pay4 (full (xb m ρ) c) (wb m ρ c)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- A buffer of device `c`, whole, at contents `f`. -/
def holds (c : Dev nD) (b : Ref sig .tc) (f : Buf (Elt F) ((c : Thread nD τ).loc b)) : sProp 𝕄 := ((c : Thread nD τ).loc b) ↦{fullShare} f

/-- Where device `c` stands at its own semaphores. -/
def posts (c : Dev nD) : sProp 𝕄 :=
  iprop(atPos ER (barCell c) 0 ∅ 0 ∗ (bigSep Finset.univ fun j : Fin 7 => atPos ER (sendCell c j) 0 ∅ 0)
    ∗ (bigSep Finset.univ fun j : Fin 7 => atPos ER (recvCell c j) 0 ∅ 0) ∗ atPos ER (locCell c) 0 ∅ 0)

/-- The tokens device `c` pays with: at every other device its barrier and its receive semaphore, at its own the send
    semaphores and the local copy's. -/
def purse (c : Dev nD) : sProp 𝕄 :=
  iprop((bigSep Finset.univ fun j : Fin 7 => dutyTok ER (barCell (fwd c j)) 0 j)
    ∗ (bigSep Finset.univ fun j : Fin 7 => dutyTok ER (recvCell (fwd c j) j) 0 0)
    ∗ (bigSep Finset.univ fun j : Fin 7 => dutyTok ER (sendCell c j) 0 0) ∗ dutyTok ER (locCell c) 0 0)

def ghost (K : Dev nD × Slot → ℕ) (c : Dev nD) : sProp 𝕄 := iprop(records (xb m ρ) K ∗ posts c ∗ purse c)

/-- What device `c`'s body starts from besides its buffers: that at some names, the credits of its barrier and receive
    semaphores, and the order of the waits. -/
def start (c : Dev nD) : sProp 𝕄 :=
  iprop((∃ K, ghost m ρ K c) ∗ cred (tallyAt (barCell c) () 7) ∗ (bigSep Finset.univ fun j : Fin 7 => cred (tallyAt (recvCell c j) () N)) ∗ levAts L lv)

/-- The three scratch buffers, at some contents. -/
def scratch (c : Dev nD) : sProp 𝕄 :=
  iprop((∃ f, holds c cc0_scratch0 f) ∗ (∃ f, holds c cc0_scratch1 f) ∗ ∃ f, holds c cc0_scratch2 f)

/-- The kernel's own semaphores, back at zero. -/
def zeros (c : Dev nD) : sProp 𝕄 :=
  iprop((bigSep Finset.univ fun j : Fin 7 => semVal (sendCell c j) 0) ∗ (bigSep Finset.univ fun j : Fin 7 => semVal (recvCell c j) 0) ∗ semVal (locCell c) 0)

def Φ₀ (c : Dev nD) : sProp 𝕄 := iprop(start m ρ c ∗ scratch c)
def Φ₁ (c : Dev nD) : sProp 𝕄 := iprop(scratch c ∗ zeros c ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => Os c 0
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The execution -/

section Body

variable (K : Dev nD × Slot → ℕ)

theorem hz : (![0, 0] : Fin 2 → Nat) = fun _ => 0 := funext fun a => by fin_cases a <;> rfl

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ cred (tallyAt (barCell c) () 7) ∗ (bigSep Finset.univ fun j : Fin 7 => cred (tallyAt (recvCell c j) () N)) ∗ levAts L lv ∗ scratch c)
    ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ c ∗ (dats m ρ 0 c).owesAt () t₀.succ ∗ stg c cc0_stg0_0 (xstg m ρ c) ∗ stg c cc0_stg1_0 (wstg m ρ c) ∗ stg c cc0_stg2_0 (outAt m ρ c))

/-- A family of pairs is a pair of families. -/
theorem fam_sep {I : Type} {S : Finset I} (Φ Ψ : I → sProp 𝕄) : (bigSep S fun j => iprop(Φ j ∗ Ψ j)) = iprop(bigSep S Φ ∗ bigSep S Ψ) :=
  bigSep_sep _ _ _

theorem fam_mono {I : Type} {S : Finset I} (Φ Ψ : I → sProp 𝕄) (h : ∀ i, Φ i ⊢ Ψ i) : (bigSep S Φ : sProp 𝕄) ⊢ (bigSep S Ψ : sProp 𝕄) :=
  bigSep_mono fun i _ => h i

/-- What the seven signals start from, gathered. -/
theorem sig_start (c : Dev nD) (f : XF F) :
    iprop(owing c (Os c 0) ∗ (bigSep Finset.univ fun j : Fin 7 => dutyTok ER (barCell (fwd c j)) 0 j) ∗ bigSep Finset.univ fun j : Fin 7 => colPts c (fwd c j) f)
      ⊢ (SigSt c 0 : sProp 𝕄) := by
  unfold SigSt
  rw [hi_start, fam_sep]
  iintro ⟨HO, Ht, Hc⟩
  isplitl [HO]; · iexact HO
  isplitl [Ht]; · iexact Ht
  iapply (fam_mono (fun j : Fin 7 => colPts c (fwd c j) f) (fun j => iprop(∃ f, colPts c (fwd c j) f)) fun j => by
    iintro H; iexists f; iexact H)
  iexact Hc
theorem sig_end (c : Dev nD) : (SigSt c 7 : sProp 𝕄) ⊢ owing c (Or c 0) := by
  unfold SigSt
  rw [hi_done, Os_end]
  iintro ⟨HO, -⟩; iexact HO

/-- What the seven transfers out start from, gathered, and what they leave. -/
theorem send_start (X : Dev nD → XB F) (c : Dev nD) :
    iprop(owing c (Or c 0) ∗ (bigSep Finset.univ fun j : Fin 7 => dutyTok ER (sendCell c j) 0 0)
        ∗ (bigSep Finset.univ fun j : Fin 7 => dutyTok ER (recvCell (fwd c j) j) 0 0)
        ∗ (bigSep Finset.univ fun j : Fin 7 => rowPts c (fwd c j) (X c))
        ∗ bigSep Finset.univ fun j : Fin 7 => iprop(∃ f, colPts (fwd c j) c f))
      ⊢ (SendSt X c 0 : sProp 𝕄) := by
  unfold SendSt
  rw [hi_start, lo_start, fam_sep, fam_sep, fam_sep]
  iintro ⟨HO, Hs, Hr, Hrow, Hcol⟩
  isplitl [HO]; · iexact HO
  isplitl [Hs Hr Hrow Hcol]
  · isplitl [Hs]; · iexact Hs
    isplitl [Hr]; · iexact Hr
    isplitl [Hrow] <;> iassumption
  iempintro
theorem send_end (X : Dev nD → XB F) (c : Dev nD) :
    (SendSt X c 7 : sProp 𝕄) ⊢ iprop(owing c 0 ∗ bigSep Finset.univ fun j : Fin 7 => cred (tallyAt (sendCell c j) () N)) := by
  unfold SendSt
  rw [hi_done, lo_done, Or_end]
  iintro ⟨HO, -, Hc⟩
  isplitl [HO] <;> iassumption

/-- The same of the waits for the transfers in. -/
theorem recv_start (X : Dev nD → XB F) (c : Dev nD) :
    iprop(owing c 0 ∗ (bigSep Finset.univ fun j : Fin 7 => cred (tallyAt (recvCell c j) () N))
        ∗ bigSep Finset.univ fun j : Fin 7 => atPos ER (recvCell c j) 0 ∅ 0)
      ⊢ (RecvSt X c 0 : sProp 𝕄) := by
  unfold RecvSt
  rw [hi_start, lo_start, fam_sep]
  iintro ⟨HO, Hs, Hr⟩
  isplitl [HO]; · iexact HO
  isplitl [Hs Hr]
  · isplitl [Hs] <;> iassumption
  iempintro
theorem recv_end (X : Dev nD → XB F) (c : Dev nD) :
    (RecvSt X c 7 : sProp 𝕄) ⊢ iprop(owing c 0 ∗ (bigSep Finset.univ fun j : Fin 7 => colPts c (bwd c j) (full X c))
      ∗ bigSep Finset.univ fun j : Fin 7 => semVal (recvCell c j) 0) := by
  unfold RecvSt
  rw [hi_done, lo_done, fam_sep]
  iintro ⟨HO, -, Hc, Hz⟩
  isplitl [HO]; · iexact HO
  isplitl [Hc] <;> iassumption

/-- The same of the waits for the transfers out. -/
theorem done_start (X : Dev nD → XB F) (c : Dev nD) :
    iprop(owing c 0 ∗ (bigSep Finset.univ fun j : Fin 7 => cred (tallyAt (sendCell c j) () N))
        ∗ bigSep Finset.univ fun j : Fin 7 => atPos ER (sendCell c j) 0 ∅ 0)
      ⊢ (DoneSt X c 0 : sProp 𝕄) := by
  unfold DoneSt
  rw [hi_start, lo_start, fam_sep]
  iintro ⟨HO, Hs, Hr⟩
  isplitl [HO]; · iexact HO
  isplitl [Hs Hr]
  · isplitl [Hs] <;> iassumption
  iempintro
theorem done_end (X : Dev nD → XB F) (c : Dev nD) :
    (DoneSt X c 7 : sProp 𝕄) ⊢ iprop(owing c 0 ∗ (bigSep Finset.univ fun j : Fin 7 => rowPts c (fwd c j) (X c))
      ∗ bigSep Finset.univ fun j : Fin 7 => semVal (sendCell c j) 0) := by
  unfold DoneSt
  rw [hi_done, lo_done, fam_sep]
  iintro ⟨HO, -, Hc, Hz⟩
  isplitl [HO]; · iexact HO
  isplitl [Hc] <;> iassumption

/-! A load or a store of a whole buffer reads or writes its contents. -/

theorem read_x (f : (cc0_stg0_0 : Ref sig .tc).ty.Contents (Elt F)) :
    (Memref.whole cc0_stg0_0 : Memref sig .tc .vmem S1024x128 .bf16).view.readAt (Elt F) (Rect.unit (s := S1024x128) ![0, 0] S1024x128.size inb_S1024x128_S1024x128_0_0).toLoadRect f = f :=
  Memref.readAt_unit_zero (Elt F) cc0_stg0_0 hz _ f
theorem read_w (f : (cc0_stg1_0 : Ref sig .tc).ty.Contents (Elt F)) :
    (Memref.whole cc0_stg1_0 : Memref sig .tc .vmem S1024x1024 .bf16).view.readAt (Elt F) (Rect.unit (s := S1024x1024) ![0, 0] S1024x1024.size inb_S1024x1024_S1024x1024_0_0).toLoadRect f = f :=
  Memref.readAt_unit_zero (Elt F) cc0_stg1_0 hz _ f
theorem read_full (f : (cc0_scratch1 : Ref sig .tc).ty.Contents (Elt F)) :
    (Memref.whole cc0_scratch1 : Memref sig .tc .vmem S128x1024 .bf16).view.readAt (Elt F) (Rect.unit (s := S128x1024) ![0, 0] S128x1024.size inb_S128x1024_S128x1024_0_0).toLoadRect f = f :=
  Memref.readAt_unit_zero (Elt F) cc0_scratch1 hz _ f
theorem read_wb (f : (cc0_scratch2 : Ref sig .tc).ty.Contents (Elt F)) :
    (Memref.whole cc0_scratch2 : Memref sig .tc .vmem S1024x1024 .bf16).view.readAt (Elt F) (Rect.unit (s := S1024x1024) ![0, 0] S1024x1024.size inb_S1024x1024_S1024x1024_0_0).toLoadRect f = f :=
  Memref.readAt_unit_zero (Elt F) cc0_scratch2 hz _ f
theorem write_xb (f w : (cc0_scratch0 : Ref sig .tc).ty.Contents (Elt F)) :
    ((Memref.whole cc0_scratch0 : Memref sig .tc .vmem S1024x128 .bf16).access (Rect.unit (s := S1024x128) ![0, 0] S1024x128.size inb_S1024x128_S1024x128_0_0) : View sig .tc _ _ _).write (Elt F) f w Finset.univ = w :=
  Memref.write_access_unit_zero_univ (Elt F) cc0_scratch0 hz _ f w
theorem write_wb (f w : (cc0_scratch2 : Ref sig .tc).ty.Contents (Elt F)) :
    ((Memref.whole cc0_scratch2 : Memref sig .tc .vmem S1024x1024 .bf16).access (Rect.unit (s := S1024x1024) ![0, 0] S1024x1024.size inb_S1024x1024_S1024x1024_0_0) : View sig .tc _ _ _).write (Elt F) f w Finset.univ = w :=
  Memref.write_access_unit_zero_univ (Elt F) cc0_scratch2 hz _ f w
theorem write_out (f w : (cc0_stg2_0 : Ref sig .tc).ty.Contents (Elt F)) :
    ((Memref.whole cc0_stg2_0 : Memref sig .tc .vmem S128x1024 .f32).access (Rect.unit (s := S128x1024) ![0, 0] S128x1024.size inb_S128x1024_S128x1024_0_0) : View sig .tc _ _ _).write (Elt F) f w Finset.univ = w :=
  Memref.write_access_unit_zero_univ (Elt F) cc0_stg2_0 hz _ f w

/-- `x_bf` after its store, as blocks. -/
theorem stored_rows (c : Dev nD) :
    (((Memref.whole cc0_scratch0 : Memref sig .tc .vmem S1024x128 .bf16).access (Rect.unit (s := S1024x128) ![0, 0] S1024x128.size inb_S1024x128_S1024x128_0_0) :
        View sig .tc _ _ _).loc (c : Thread nD τ) ↦{fullShare} k0_pay2 (k0_pay1 (xstg m ρ c)) : sProp 𝕄)
      ⊢ iprop(rowPts c c (xb m ρ c) ∗ bigSep Finset.univ fun j : Fin 7 => rowPts c (fwd c j) (xb m ρ c)) :=
  Entails.of_eq (row_split c (xb m ρ c))

set_option maxHeartbeats 4000000 in
/-- The body, executed from `bodyPre` to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) (Memref.whole cc0_scratch2) (Memref.isWhole_whole _)
            cc0_scratch3 cc0_scratch4 cc0_scratch5) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold k0_part1_skel k0_part2_skel k0_part3_skel k0_part4_skel k0_part5_skel k0_part6_skel k0_part7_skel k0_part8_skel k0_part9_skel k0_part10_skel k0_part11_skel k0_part12_skel k0_part13_skel
  simp only [semSignalWord, semWaitWord, Prog.lift, Prog.bind_op, Prog.bind_ret, Prog.pure_eq_ret, wp_deviceId]
  unfold bodyPre ghost posts purse scratch holds
  iintro ⟨⟨⟨⟨#HR, ⟨HatB, HatS, HatR, HatL⟩, ⟨HtB, HtR, HtS, HtL⟩⟩, HcB, HcR, #Hlev, ⟨⟨%f0, H0⟩, ⟨%f1, H1⟩, ⟨%f2, H2⟩⟩⟩,
    Ho, ⟨%d0, %g0, %hg0, Hx⟩, ⟨%d1, %g1, %hg1, Hw⟩, ⟨%d2, %g2, %hg2, Hout⟩⟩, Hk⟩
  have hx : g0 = xstg m ρ c := by rw [hg0]; unfold Dat.before; rw [if_pos (fetch0_0 t₀)]; rfl
  have hw : g1 = wstg m ρ c := by rw [hg1]; unfold Dat.before; rw [if_pos (fetch0_1 t₀)]; rfl
  subst hx hw
  unfold Dat.owesAt Pipeline.owesWithin
  icases Ho with ⟨%W, %hW, HO⟩
  rw [show (dats m ρ 0 c).owed t₀.castSucc = Os c 0 from rfl]
  -- the seven signals
  ihave H1 := (Entails.of_eq (col_split c f1)) $$ H1
  icases H1 with ⟨Hown, Hcols⟩
  ihave HSt := (sig_start c f1) $$ [HO HtB Hcols]
  · isplitl [HO]; · unfold owing; iexists W; iexact HO
    isplitl [HtB] <;> iassumption
  iapply (step_signal (xb m ρ) K c (0 : Fin 7) 0 1 rfl rfl _ (dev1_eq c)) $$ [HSt]
  · isplitr; · iexact HR
    iexact HSt
  iintro HSt
  iapply (step_signal (xb m ρ) K c (1 : Fin 7) 1 2 rfl rfl _ (dev2_eq c)) $$ [HSt]
  · isplitr; · iexact HR
    iexact HSt
  iintro HSt
  iapply (step_signal (xb m ρ) K c (2 : Fin 7) 2 3 rfl rfl _ (dev3_eq c)) $$ [HSt]
  · isplitr; · iexact HR
    iexact HSt
  iintro HSt
  iapply (step_signal (xb m ρ) K c (3 : Fin 7) 3 4 rfl rfl _ (dev4_eq c)) $$ [HSt]
  · isplitr; · iexact HR
    iexact HSt
  iintro HSt
  iapply (step_signal (xb m ρ) K c (4 : Fin 7) 4 5 rfl rfl _ (dev5_eq c)) $$ [HSt]
  · isplitr; · iexact HR
    iexact HSt
  iintro HSt
  iapply (step_signal (xb m ρ) K c (5 : Fin 7) 5 6 rfl rfl _ (dev6_eq c)) $$ [HSt]
  · isplitr; · iexact HR
    iexact HSt
  iintro HSt
  iapply (step_signal (xb m ρ) K c (6 : Fin 7) 6 7 rfl rfl _ (dev7_eq c)) $$ [HSt]
  · isplitr; · iexact HR
    iexact HSt
  iintro HSt
  ihave HO := (sig_end c) $$ HSt
  -- `x` into `x_bf`
  iapply (wp_load 𝒱₀ (c : Thread nD τ) none Set.univ (m := (Memref.whole cc0_stg0_0 : Memref sig .tc .vmem S1024x128 .bf16)) (Finset.subset_univ _)) $$ Hx; iintro Hx
  rw [read_x]
  iapply (wp_load 𝒱₀ (c : Thread nD τ) none Set.univ (m := (Memref.whole cc0_scratch0 : Memref sig .tc .vmem S1024x128 .bf16)) (Finset.subset_univ _)) $$ H0; iintro H0
  iapply (wp_store 𝒱₀ (c : Thread nD τ) none Set.univ (m := (Memref.whole cc0_scratch0 : Memref sig .tc .vmem S1024x128 .bf16)) (r := Rect.unit (s := S1024x128) ![0, 0] S1024x128.size inb_S1024x128_S1024x128_0_0) (Mk := Finset.univ) (Finset.subset_univ _)) $$ H0; iintro H0
  rw [write_xb]
  ihave H0 := (stored_rows m ρ c) $$ H0
  icases H0 with ⟨HrowOwn, Hrows⟩
  -- the device's own block, copied
  iapply (step_copy (xb m ρ) K c locS_eq) $$ [HrowOwn Hown HtL]
  · isplitr; · iexact HR
    isplitl [HrowOwn]; · iexact HrowOwn
    isplitl [Hown]; · iexists f1; iexact Hown
    iexact HtL
  iintro HcL
  -- `w` into `w_bf`
  iapply (wp_load 𝒱₀ (c : Thread nD τ) none Set.univ (m := (Memref.whole cc0_stg1_0 : Memref sig .tc .vmem S1024x1024 .bf16)) (Finset.subset_univ _)) $$ Hw; iintro Hw
  rw [read_w]
  iapply (wp_load 𝒱₀ (c : Thread nD τ) none Set.univ (m := (Memref.whole cc0_scratch2 : Memref sig .tc .vmem S1024x1024 .bf16)) (Finset.subset_univ _)) $$ H2; iintro H2
  iapply (wp_store 𝒱₀ (c : Thread nD τ) none Set.univ (m := (Memref.whole cc0_scratch2 : Memref sig .tc .vmem S1024x1024 .bf16)) (r := Rect.unit (s := S1024x1024) ![0, 0] S1024x1024.size inb_S1024x1024_S1024x1024_0_0) (Mk := Finset.univ) (Finset.subset_univ _)) $$ H2; iintro H2
  rw [write_wb]
  -- the barrier
  iapply (step_barrier (xb m ρ) K c) $$ [HcB HatB HO]
  · isplitr; · iexact HR
    isplitr; · iexact Hlev
    isplitl [HcB]; · iexact HcB
    isplitl [HatB] <;> iassumption
  iintro ⟨HO, HzB, Hcols⟩
  -- the seven transfers out
  ihave HSt := (send_start (xb m ρ) c) $$ [HO HtS HtR Hrows Hcols]
  · isplitl [HO]; · iexact HO
    isplitl [HtS]; · iexact HtS
    isplitl [HtR]; · iexact HtR
    isplitl [Hrows] <;> iassumption
  iapply (step_send (xb m ρ) K c (0 : Fin 7) 0 1 rfl rfl _ (dev8_eq c) (k0_off3 c 1#32) (off3_eq c 0) _ _ (sendS_eq 0 inb_S7_S1_0) (recvS_eq 0 inb_S7_S1_0)) $$ [HSt]
  · isplitr; · iexact HR
    iexact HSt
  iintro HSt
  iapply (step_send (xb m ρ) K c (1 : Fin 7) 1 2 rfl rfl _ (dev9_eq c) (k0_off3 c 2#32) (off3_eq c 1) _ _ (sendS_eq 1 inb_S7_S1_1) (recvS_eq 1 inb_S7_S1_1)) $$ [HSt]
  · isplitr; · iexact HR
    iexact HSt
  iintro HSt
  iapply (step_send (xb m ρ) K c (2 : Fin 7) 2 3 rfl rfl _ (dev10_eq c) (k0_off3 c 3#32) (off3_eq c 2) _ _ (sendS_eq 2 inb_S7_S1_2) (recvS_eq 2 inb_S7_S1_2)) $$ [HSt]
  · isplitr; · iexact HR
    iexact HSt
  iintro HSt
  iapply (step_send (xb m ρ) K c (3 : Fin 7) 3 4 rfl rfl _ (dev11_eq c) (k0_off3 c 4#32) (off3_eq c 3) _ _ (sendS_eq 3 inb_S7_S1_3) (recvS_eq 3 inb_S7_S1_3)) $$ [HSt]
  · isplitr; · iexact HR
    iexact HSt
  iintro HSt
  iapply (step_send (xb m ρ) K c (4 : Fin 7) 4 5 rfl rfl _ (dev12_eq c) (k0_off3 c 5#32) (off3_eq c 4) _ _ (sendS_eq 4 inb_S7_S1_4) (recvS_eq 4 inb_S7_S1_4)) $$ [HSt]
  · isplitr; · iexact HR
    iexact HSt
  iintro HSt
  iapply (step_send (xb m ρ) K c (5 : Fin 7) 5 6 rfl rfl _ (dev13_eq c) (k0_off3 c 6#32) (off3_eq c 5) _ _ (sendS_eq 5 inb_S7_S1_5) (recvS_eq 5 inb_S7_S1_5)) $$ [HSt]
  · isplitr; · iexact HR
    iexact HSt
  iintro HSt
  iapply (step_send (xb m ρ) K c (6 : Fin 7) 6 7 rfl rfl _ (dev14_eq c) (k0_off3 c 7#32) (off3_eq c 6) _ _ (sendS_eq 6 inb_S7_S1_6) (recvS_eq 6 inb_S7_S1_6)) $$ [HSt]
  · isplitr; · iexact HR
    iexact HSt
  iintro HSt
  ihave HSt := (send_end (xb m ρ) c) $$ HSt
  icases HSt with ⟨HO, HcS⟩
  -- the local copy has landed
  iapply (step_local (xb m ρ) K c locS_eq) $$ [HcL HatL HO]
  · isplitr; · iexact HR
    isplitl [HcL]; · iexact HcL
    isplitl [HatL] <;> iassumption
  iintro ⟨HO, HzL, Hown, HrowOwn⟩
  -- the seven transfers in have landed
  ihave HSt := (recv_start (xb m ρ) c) $$ [HO HcR HatR]
  · isplitl [HO]; · iexact HO
    isplitl [HcR] <;> iassumption
  iapply (step_recv (xb m ρ) K c (0 : Fin 7) 0 1 rfl rfl _ (recvS_eq 0 inb_S7_S1_0)) $$ [HSt]
  · isplitr; · iexact HR
    iexact HSt
  iintro HSt
  iapply (step_recv (xb m ρ) K c (1 : Fin 7) 1 2 rfl rfl _ (recvS_eq 1 inb_S7_S1_1)) $$ [HSt]
  · isplitr; · iexact HR
    iexact HSt
  iintro HSt
  iapply (step_recv (xb m ρ) K c (2 : Fin 7) 2 3 rfl rfl _ (recvS_eq 2 inb_S7_S1_2)) $$ [HSt]
  · isplitr; · iexact HR
    iexact HSt
  iintro HSt
  iapply (step_recv (xb m ρ) K c (3 : Fin 7) 3 4 rfl rfl _ (recvS_eq 3 inb_S7_S1_3)) $$ [HSt]
  · isplitr; · iexact HR
    iexact HSt
  iintro HSt
  iapply (step_recv (xb m ρ) K c (4 : Fin 7) 4 5 rfl rfl _ (recvS_eq 4 inb_S7_S1_4)) $$ [HSt]
  · isplitr; · iexact HR
    iexact HSt
  iintro HSt
  iapply (step_recv (xb m ρ) K c (5 : Fin 7) 5 6 rfl rfl _ (recvS_eq 5 inb_S7_S1_5)) $$ [HSt]
  · isplitr; · iexact HR
    iexact HSt
  iintro HSt
  iapply (step_recv (xb m ρ) K c (6 : Fin 7) 6 7 rfl rfl _ (recvS_eq 6 inb_S7_S1_6)) $$ [HSt]
  · isplitr; · iexact HR
    iexact HSt
  iintro HSt
  ihave HSt := (recv_end (xb m ρ) c) $$ HSt
  icases HSt with ⟨HO, Hcols, HzR⟩
  ihave H1 := (Entails.of_eq (col_split_bwd c (full (xb m ρ) c)).symm) $$ [Hown Hcols]
  · isplitl [Hown] <;> iassumption
  -- the product and its gate
  iapply (wp_load 𝒱₀ (c : Thread nD τ) none Set.univ (m := (Memref.whole cc0_scratch1 : Memref sig .tc .vmem S128x1024 .bf16)) (Finset.subset_univ _)) $$ H1; iintro H1
  rw [read_full]
  iapply (wp_load 𝒱₀ (c : Thread nD τ) none Set.univ (m := (Memref.whole cc0_scratch2 : Memref sig .tc .vmem S1024x1024 .bf16)) (Finset.subset_univ _)) $$ H2; iintro H2
  rw [read_wb]
  iapply (wp_load 𝒱₀ (c : Thread nD τ) none Set.univ (m := (Memref.whole cc0_stg2_0 : Memref sig .tc .vmem S128x1024 .f32)) (Finset.subset_univ _)) $$ Hout; iintro Hout
  iapply (wp_store 𝒱₀ (c : Thread nD τ) none Set.univ (m := (Memref.whole cc0_stg2_0 : Memref sig .tc .vmem S128x1024 .f32)) (r := Rect.unit (s := S128x1024) ![0, 0] S128x1024.size inb_S128x1024_S128x1024_0_0) (Mk := Finset.univ) (Finset.subset_univ _)) $$ Hout; iintro Hout
  rw [write_out]
  -- the seven transfers out have left
  ihave HSt := (done_start (xb m ρ) c) $$ [HO HcS HatS]
  · isplitl [HO]; · iexact HO
    isplitl [HcS] <;> iassumption
  iapply (step_done (xb m ρ) K c (0 : Fin 7) 0 1 rfl rfl _ (sendS_eq 0 inb_S7_S1_0)) $$ [HSt]
  · isplitr; · iexact HR
    iexact HSt
  iintro HSt
  iapply (step_done (xb m ρ) K c (1 : Fin 7) 1 2 rfl rfl _ (sendS_eq 1 inb_S7_S1_1)) $$ [HSt]
  · isplitr; · iexact HR
    iexact HSt
  iintro HSt
  iapply (step_done (xb m ρ) K c (2 : Fin 7) 2 3 rfl rfl _ (sendS_eq 2 inb_S7_S1_2)) $$ [HSt]
  · isplitr; · iexact HR
    iexact HSt
  iintro HSt
  iapply (step_done (xb m ρ) K c (3 : Fin 7) 3 4 rfl rfl _ (sendS_eq 3 inb_S7_S1_3)) $$ [HSt]
  · isplitr; · iexact HR
    iexact HSt
  iintro HSt
  iapply (step_done (xb m ρ) K c (4 : Fin 7) 4 5 rfl rfl _ (sendS_eq 4 inb_S7_S1_4)) $$ [HSt]
  · isplitr; · iexact HR
    iexact HSt
  iintro HSt
  iapply (step_done (xb m ρ) K c (5 : Fin 7) 5 6 rfl rfl _ (sendS_eq 5 inb_S7_S1_5)) $$ [HSt]
  · isplitr; · iexact HR
    iexact HSt
  iintro HSt
  iapply (step_done (xb m ρ) K c (6 : Fin 7) 6 7 rfl rfl _ (sendS_eq 6 inb_S7_S1_6)) $$ [HSt]
  · isplitr; · iexact HR
    iexact HSt
  iintro HSt
  ihave HSt := (done_end (xb m ρ) c) $$ HSt
  icases HSt with ⟨HO, Hrows, HzS⟩
  ihave H0 := (Entails.of_eq (row_split c (xb m ρ c)).symm) $$ [HrowOwn Hrows]
  · isplitl [HrowOwn] <;> iassumption
  rw [wp_ret]; imodintro
  iapply Hk
  unfold bodyPost Φ₁ scratch holds zeros Dat.owesAt Pipeline.owesWithin
  rw [show (dats m ρ 0 c).owed t₀.succ = 0 from rfl]
  isplitl [H0 H1 H2 HzS HzR HzL HzB]
  · isplitl [H0 H1 H2]
    · isplitl [H0]; · iexists _; iexact H0
      isplitl [H1]; · iexists _; iexact H1
      iexists _; iexact H2
    isplitl [HzS HzR HzL]
    · isplitl [HzS]; · iexact HzS
      isplitl [HzR] <;> iassumption
    iexact HzB
  isplitl [HO]
  · unfold owing
    icases HO with ⟨%W', HO⟩
    iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

def bodyPre' (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

/-- The pipeline library's obligation for the body on device `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) (Memref.whole cc0_scratch2) (Memref.isWhole_whole _)
            cc0_scratch3 cc0_scratch4 cc0_scratch5) (fun _ => bodyPost m ρ c)
  unfold bodyPre' Φ₀ start
  iintro ⟨⟨⟨⟨%K, Hg⟩, HcB, HcR, Hlev⟩, Hscr⟩, Ho, Hst⟩
  iapply (sound_body m ρ K c fun _ => bodyPost m ρ c)
  unfold bodyPre
  isplitr []
  · isplitl [Hg HcB HcR Hlev Hscr]
    · isplitl [Hg]; · iexact Hg
      isplitl [HcB]; · iexact HcB
      isplitl [HcR]; · iexact HcR
      isplitl [Hlev] <;> iassumption
    isplitl [Ho] <;> iassumption
  · iintro H; iexact H

end Body

end Cert.KernelIdealProof
-- ==== Proof.KernelIdeal.Launch.lean ====
/-
# The launch, and the run

The launch makes every semaphore's record from its counter, deals each device its positions and the tokens of the duties
it pays, and lends each device the credits the others owe it. With the body proved, the pipeline library then gives the
run: it ends, with every window's array as the pipeline leaves it and every counter at zero.
-/
module

public import proofs.«01_k».proof.Proof.KernelIdeal.Body
public import Idealize.ShloMosaic.Lib.Pipeline.CollectiveSegs

@[expose] public section

set_option maxRecDepth 16384
set_option pp.maxSteps 400

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := fun s s' h => by
  have := congrArg slotOf h
  rw [slotOf_csem, slotOf_csem] at this
  exact Option.some.inj this

theorem kcell_injective : Function.Injective (kcell : Dev nD × Slot → GSem nD τ sig) := by
  rintro ⟨c, s⟩ ⟨c', s'⟩ h
  have h1 : c = c' := congrArg (fun g : GSem nD τ sig => g.1.1) h
  have h2 : s = s' := csem_injective (congrArg Prod.snd h)
  rw [h1, h2]
def ringCells : Finset (GSem nD τ sig) := Finset.univ.map ⟨kcell, kcell_injective⟩

/-- The duties of a device's own semaphores: seven of its barrier's, one of each of the others. -/
abbrev Duty : Type := Fin 7 ⊕ Xfer
abbrev tokOf (x : Dev nD × Duty) : GSem nD τ sig × ℕ × Fin 7 := match x.2 with
  | .inl j => (barCell x.1, 0, j)
  | .inr k => (kcell (x.1, .inr k), 0, 0)
theorem tokOf_injective : Function.Injective (tokOf : Dev nD × Duty → GSem nD τ sig × ℕ × Fin 7) := by
  rintro ⟨c, j | k⟩ ⟨c', j' | k'⟩ h
  · have h1 := kcell_injective (a₁ := (c, .inl ())) (a₂ := (c', .inl ())) (congrArg Prod.fst h)
    have h2 : j = j' := congrArg (fun x : GSem nD τ sig × ℕ × Fin 7 => x.2.2) h
    have h3 : c = c' := (Prod.ext_iff.mp h1).1
    rw [h3, h2]
  · have h1 := kcell_injective (a₁ := (c, .inl ())) (a₂ := (c', .inr k')) (congrArg Prod.fst h)
    exact absurd (Prod.ext_iff.mp h1).2 (by simp)
  · have h1 := kcell_injective (a₁ := (c, .inr k)) (a₂ := (c', .inl ())) (congrArg Prod.fst h)
    exact absurd (Prod.ext_iff.mp h1).2 (by simp)
  · have h1 := kcell_injective (a₁ := (c, .inr k)) (a₂ := (c', .inr k')) (congrArg Prod.fst h)
    have h2 := Prod.ext_iff.mp h1
    have h3 : c = c' := h2.1
    have h4 : k = k' := Sum.inr.inj h2.2
    rw [h3, h4]
def ringToks : Finset (GSem nD τ sig × ℕ × Fin 7) := Finset.univ.map ⟨tokOf, tokOf_injective⟩

def u₀ : UU :=
  (initOf (Pipeline.cells cfgs cellOf_inj) (Pipeline.launchToks cfgs cellOf_inj), initOf ringCells ringToks)

/-- A family over the kernel's own semaphores, by kind. -/
theorem xfer_split (Φ : Xfer → sProp 𝕄) : bigSep Finset.univ Φ
    = iprop((bigSep Finset.univ fun j : Fin 7 => Φ (.inl j)) ∗ (bigSep Finset.univ fun j : Fin 7 => Φ (.inr (.inl j))) ∗ Φ (.inr (.inr ()))) := by
  rw [bigSep_univ_sum, bigSep_univ_sum, bigSep_univ_of_subsingleton (I := Unit) ()]; rfl
/-- A family over all of a device's semaphores, by kind. -/
theorem slot_split (Φ : Slot → sProp 𝕄) : bigSep Finset.univ Φ
    = iprop(Φ (.inl ()) ∗ bigSep Finset.univ fun k : Xfer => Φ (.inr k)) := by
  rw [bigSep_univ_sum, bigSep_univ_of_subsingleton (I := Unit) ()]; rfl

/-- The tokens of device `c`'s own semaphores. -/
def toks (c : Dev nD) : sProp 𝕄 :=
  iprop((bigSep Finset.univ fun j : Fin 7 => dutyTok ER (barCell c) 0 j)
    ∗ (bigSep Finset.univ fun j : Fin 7 => dutyTok ER (sendCell c j) 0 0) ∗ (bigSep Finset.univ fun j : Fin 7 => dutyTok ER (recvCell c j) 0 0)
    ∗ dutyTok ER (locCell c) 0 0)

/-- What the launch deals device `c` of the records. -/
def G (c : Dev nD) : sProp 𝕄 :=
  iprop((bigSep Finset.univ fun s : Slot => roundState ER (ringRd (xb m ρ)) (kcell (c, s)) 0)
    ∗ (bigSep Finset.univ fun s : Slot => iprop(atPos ER (kcell (c, s)) 0 ∅ 0 ∗ reached ER (kcell (c, s)) 0)) ∗ toks c)
/-- What all the devices together make of it. -/
def G' (c : Dev nD) : sProp 𝕄 := iprop(∃ K, ghost m ρ K c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun s : Slot => Φ (kcell (c, s)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, xfer_split]; rfl
  iintro HX
  imod (Rounds.fund ER (ringRd (xb m ρ)) ringCells ringToks) $$ HX with ⟨Hst, Hr, Hat, Htok⟩
  imodintro
  ihave Hst' := (Entails.of_eq (hX fun g => roundState ER (ringRd (xb m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [fam_sep]
  isplitl [Hst']; · iexact Hst'
  isplitl [Hat' Hr']
  · isplitl [Hat'] <;> iassumption
  iexact Htok'

/-! ## The semaphores' records made -/

theorem ownSems0_eq (c : Dev nD) : (Pipeline.ownSems0 (Ix := Unit) (Name := ℕ) (U := UU) (Lvl := ℕ) (Val := Elt F) (τ := τ) osem c : sProp 𝕄)
    = zeros c := by
  unfold Pipeline.ownSems0 zeros; rw [xfer_split]
/-- The barrier semaphore is the one no kernel allocates. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun s : Slot => semVal (kcell (c, s)) 0 : sProp 𝕄) := by
  rw [unscopedSems0_eq, slot_split]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun s => iprop(∃ κ : ℕ, cellInv ER (ringRd (xb m ρ)) κ (kcell (c, s))))
          ∗ (bigSep Finset.univ fun s : Slot => iprop(atPos ER (kcell (c, s)) 0 ∅ 0 ∗ reached ER (kcell (c, s)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun s : Slot => semVal (kcell (c, s)) 0) ∗ bigSep Finset.univ fun s : Slot => roundState ER (ringRd (xb m ρ)) (kcell (c, s)) 0)
      ⊢ (|={Set.univ}=> bigSep Finset.univ fun s => iprop(∃ κ : ℕ, cellInv ER (ringRd (xb m ρ)) κ (kcell (c, s))) : sProp 𝕄) from by
        rw [← fam_sep]
        exact (bigSep_mono fun s _ => (Rounds.body_intro ER (ringRd (xb m ρ)) (kcell (c, s))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt around -/

/-- Each device paired with a turn, moved on by that turn. -/
def spin : Dev nD × Fin 7 ≃ Dev nD × Fin 7 :=
  ⟨fun x => (fwd x.1 x.2, x.2), fun x => (bwd x.1 x.2, x.2), fun x => by simp only [bwd_fwd], fun x => by simp only [fwd_bwd]⟩

/-- A family over devices and turns may be counted at the device the turn leads to. -/
theorem around (Φ : Dev nD → Fin 7 → sProp 𝕄) :
    (bigSep Finset.univ fun c : Dev nD => bigSep Finset.univ fun j : Fin 7 => Φ c j)
      = bigSep Finset.univ fun c : Dev nD => bigSep Finset.univ fun j : Fin 7 => Φ (fwd c j) j := by
  rw [← bigSep_univ_prod (fun x : Dev nD × Fin 7 => Φ x.1 x.2), bigSep_univ_equiv spin (fun x : Dev nD × Fin 7 => Φ x.1 x.2), bigSep_univ_prod]
  rfl

theorem toks_around : (bigSep Finset.univ fun c : Dev nD => (toks c : sProp 𝕄)) ⊢ bigSep Finset.univ fun c : Dev nD => purse c := by
  unfold toks purse
  simp only [fam_sep]
  rw [around (fun c j => dutyTok ER (barCell c) 0 j), around (fun c j => dutyTok ER (recvCell c j) 0 0)]
  iintro ⟨H1, H2, H3, H4⟩
  isplitl [H1]; · iexact H1
  isplitl [H3]; · iexact H3
  isplitl [H2]; · iexact H2
  iexact H4

theorem posts_eq (c : Dev nD) : (bigSep Finset.univ fun s : Slot => (atPos ER (kcell (c, s)) 0 ∅ 0 : sProp 𝕄)) = posts c := by
  unfold posts; rw [slot_split, xfer_split]

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← fam_sep]; exact bigSep_mono h)

theorem ghost_intro (K : Dev nD × Slot → ℕ) (c : Dev nD) : iprop(records (xb m ρ) K ∗ posts c ∗ purse c) ⊢ G' m ρ c := by
  unfold G' ghost
  iintro H
  iexists K; iexact H

theorem regroup :
    (bigSep Finset.univ fun c : Dev nD => iprop((bigSep Finset.univ fun s => iprop(∃ κ : ℕ, cellInv ER (ringRd (xb m ρ)) κ (kcell (c, s))))
          ∗ (bigSep Finset.univ fun s : Slot => iprop(atPos ER (kcell (c, s)) 0 ∅ 0 ∗ reached ER (kcell (c, s)) 0)) ∗ toks c) : sProp 𝕄)
      ⊢ bigSep Finset.univ (G' m ρ) := by
  simp only [fam_sep]
  rw [← bigSep_univ_prod (fun x : Dev nD × Slot => iprop(∃ κ : ℕ, cellInv ER (ringRd (xb m ρ)) κ (kcell x))),
    ← bigSep_univ_prod (fun x : Dev nD × Slot => (reached ER (kcell x) 0 : sProp 𝕄)),
    bigSep_congr (s := Finset.univ) (fun (c : Dev nD) _ => posts_eq (F := F) c)]
  iintro ⟨HI, ⟨Hat, #HR⟩, Htok⟩
  ihave HK := (BI.bigSep_exists_pi Finset.univ (fun (x : Dev nD × Slot) (κ : ℕ) => (cellInv ER (ringRd (xb m ρ)) κ (kcell x) : sProp 𝕄))) $$ HI
  icases HK with ⟨%K, #HI⟩
  ihave Htk := (toks_around (F := F)) $$ Htok
  iapply (with_persistent (R := records (xb m ρ) K) fun c _ => ghost_intro m ρ K c)
  isplitr
  · unfold records; isplitl; · iexact HI
    iexact HR
  · rw [fam_sep]
    isplitl [Hat]; · iexact Hat
    iexact Htk

/-- All the devices' semaphores and records at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits lent -/

theorem bar_eq_iff {a b : Dev nD} : Iff (barCell a = barCell b) (a = b) :=
  ⟨fun h => congrArg (fun g : GSem nD τ sig => g.1.1) h, fun h => h ▸ rfl⟩
theorem recv_eq_iff {a b : Dev nD} {j i : Fin 7} : Iff (recvCell a j = recvCell b i) (a = b ∧ j = i) := by
  refine ⟨fun h => ?_, fun h => by rw [h.1, h.2]⟩
  have := Prod.ext_iff.mp (kcell_injective (a₁ := (a, .inr (.inr (.inl j)))) (a₂ := (b, .inr (.inr (.inl i)))) h)
  exact ⟨this.1, Sum.inl.inj (Sum.inr.inj (Sum.inr.inj this.2))⟩
theorem recv_ne_bar (a b : Dev nD) (j : Fin 7) : recvCell a j ≠ barCell b := fun h => by
  have := Prod.ext_iff.mp (kcell_injective (a₁ := (a, .inr (.inr (.inl j)))) (a₂ := (b, .inl ())) h)
  exact absurd this.2 (by simp)

/-- A sum of tallies, read at a cell. -/
theorem tally_sum_apply (S : Finset (Fin 7)) (cell : Fin 7 → GSem nD τ sig) (k : ℕ) (g : GSem nD τ sig) :
    (∑ j ∈ S, tallyAt (cell j) () k : CellTallies nD τ sig Unit) g () = ∑ j ∈ S, if g = cell j then k else 0 := by
  rw [Finset.sum_apply, Finsupp.finset_sum_apply]
  refine Finset.sum_congr rfl fun j _ => ?_
  rw [tallyAt_apply]
  by_cases h : g = cell j
  · rw [if_pos ⟨h, rfl⟩, if_pos h]
  · rw [if_neg (fun h' => h h'.1), if_neg h]

/-- What device `d` owes device `c`'s barrier. -/
theorem owed_bar (d c : Dev nD) : Os d 0 (barCell c) () = ∑ j : Fin 7, if c = fwd d j then 1 else 0 := by
  unfold Os Or
  rw [Pi.add_apply, Finsupp.add_apply, tally_sum_apply, tally_sum_apply, hi_zero,
    Finset.sum_eq_zero (fun j _ => if_neg fun h => recv_ne_bar _ _ _ h.symm), Nat.zero_add]
  refine Finset.sum_congr rfl fun j _ => ?_
  by_cases h : c = fwd d j
  · rw [if_pos h, if_pos (bar_eq_iff.mpr h)]
  · rw [if_neg h, if_neg (fun h' => h (bar_eq_iff.mp h'))]

/-- What device `d` owes device `c`'s `i`-th receive semaphore. -/
theorem owed_recv (d c : Dev nD) (i : Fin 7) : Os d 0 (recvCell c i) () = ∑ j : Fin 7, (if c = fwd d j ∧ i = j then 1 else 0) * N := by
  unfold Os Or
  rw [Pi.add_apply, Finsupp.add_apply, tally_sum_apply, tally_sum_apply, hi_zero,
    Finset.sum_eq_zero (s := Finset.univ) (f := fun j => if recvCell c i = barCell (fwd d j) then 1 else 0) (fun j _ => if_neg fun h => recv_ne_bar _ _ _ h), Nat.add_zero]
  refine Finset.sum_congr rfl fun j _ => ?_
  by_cases h : c = fwd d j ∧ i = j
  · rw [if_pos h, if_pos (recv_eq_iff.mpr h), Nat.one_mul]
  · rw [if_neg h, if_neg (fun h' => h (recv_eq_iff.mp h')), Nat.zero_mul]

theorem launch_bar (c : Dev nD) :
    tallyOn (barCell c) (launchCredit (Pipeline.owing fun c => Os c 0) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_recv (c : Dev nD) (i : Fin 7) :
    tallyOn (recvCell c i) (launchCredit (Pipeline.owing fun c => Os c 0) 0 (recvCell c i)) = (tallyAt (recvCell c i) () N : CellTallies nD τ sig Unit) := by
  unfold tallyAt; refine congrArg _ (Finsupp.ext fun u => ?_); cases u
  rw [Pipeline.launchCredit_owing, Finsupp.single_eq_same, Finset.sum_congr rfl fun d _ => owed_recv d c i]
  simp only [← Finset.sum_mul]
  rw [show (∑ d : Dev nD, ∑ j : Fin 7, if c = fwd d j ∧ i = j then 1 else 0) = 1 from by revert c i; decide, Nat.one_mul]

/-- Of four assertions, the first and the third kept. -/
theorem keep_two {A B C D A' C' : sProp 𝕄} (h : A ⊢ A') (h' : C ⊢ C') : iprop(A ∗ B ∗ C ∗ D) ⊢ iprop(A' ∗ C') := by
  iintro ⟨HA, -, HC, -⟩
  isplitl [HA]
  · iapply h; iexact HA
  · iapply h'; iexact HC

theorem creds (c : Dev nD) :
    (Pipeline.launchCred (fun c => Os c 0) c : sProp 𝕄)
      ⊢ iprop(cred (tallyAt (barCell c) () 7) ∗ bigSep Finset.univ fun j : Fin 7 => cred (tallyAt (recvCell c j) () N)) := by
  unfold Pipeline.launchCred
  refine (bigSep_subset (Finset.subset_univ (Finset.univ.map ⟨csem, csem_injective⟩))).trans ?_
  rw [bigSep_map, slot_split, xfer_split]
  exact keep_two (Entails.of_eq (congrArg (fun t => (cred t : sProp 𝕄)) (launch_bar c)))
    (Entails.of_eq (bigSep_congr fun j _ => congrArg (fun t => (cred t : sProp 𝕄)) (launch_recv c j)))

/-! ## The side conditions, and the run -/

theorem start_intro (c : Dev nD) :
    iprop(Pipeline.unscopedRestP Pipeline.Prefetch.none cfg0.spec c (fun b => m ((c : Thread nD τ).loc b)) ∗ levAts L lv
        ∗ Pipeline.launchCred (fun c => Os c 0) c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨HB, HN⟩
  imodintro
  unfold start G'
  isplitl
  · isplitl [HG]; · iexact HG
    isplitl [HB]; · iexact HB
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch holds
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch holds
  iintro ⟨Hr, Hz, HzB⟩
  isplitl [HzB]; · iexact HzB
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What the run leaves of a window's array. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with zero counters, every fair run of the program on the eight devices ends, with every window's array
    as the pipeline leaves it and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun c => Os c 0) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The two input arrays are as they were. -/
theorem finalA_x (c : Dev nD) : finalA m ρ c (0 : Fin 3) = m ((c : Thread nD τ).loc main_arg0) :=
  (dats (F := F) m ρ 0 c).arrAt_in (0 : Fin 3) rfl _
theorem finalA_w (c : Dev nD) : finalA m ρ c (1 : Fin 3) = m ((c : Thread nD τ).loc main_arg1) :=
  (dats (F := F) m ρ 0 c).arrAt_in (1 : Fin 3) rfl _

end Cert.KernelIdealProof
-- ==== Proof.Value.Real.lean ====
/-
# The mathematics, on the extended reals

The product of two matrices at an entry, the same sum taken in eight groups of 128 terms, and why eight partial sums in
[-7.5, 7.5] make a number that the clip to [-60, 60] leaves alone.
-/
module

public import Idealize.ShloMosaic.PureOps.Ideal
public import Idealize.ShloMosaic.Lib.Pointwise

@[expose] public section

noncomputable section

namespace Cert.ValueProof

open Idealize.ShloMosaic
open scoped BigOperators

/-- Position `l` of group `p` when 1024 positions are taken in eight groups of 128. -/
def place (p : Fin 8) (l : Fin 128) : Fin 1024 := ⟨p.val * 128 + l.val, by omega⟩

/-- A sum over 1024 positions, group by group. -/
theorem sum_groups (f : Fin 1024 → EReal) : ∑ k, f k = ∑ p : Fin 8, ∑ l : Fin 128, f (place p l) := by
  rw [← Equiv.sum_comp (finProdFinEquiv (m := 8) (n := 128)) f, Fintype.sum_prod_type]
  refine Finset.sum_congr rfl fun p _ => Finset.sum_congr rfl fun l _ => congrArg f (Fin.ext ?_)
  show l.val + 128 * p.val = p.val * 128 + l.val
  omega

/-- Entry `(r, n)` of the product of two matrices with 1024 rows and columns. -/
def entry (X W : (⟨2, ![1024, 1024]⟩ : Shape).Idx → EReal) (r n : Fin 1024) : EReal :=
  ∑ k : Fin 1024, X (ix2 r k) * W (ix2 k n)

/-- Eight numbers in [-7.5, 7.5] add up to a number in [-60, 60]. -/
theorem sum_bounds (y : Fin 8 → EReal) (h : ∀ p, ((-(15 / 2) : ℝ) : EReal) ≤ y p ∧ y p ≤ ((15 / 2 : ℝ) : EReal)) :
    ((-60 : ℝ) : EReal) ≤ ∑ p, y p ∧ ∑ p, y p ≤ ((60 : ℝ) : EReal) := by
  have total (a : ℝ) : ∑ _p : Fin 8, (a : EReal) = ((8 * a : ℝ) : EReal) := by
    rw [Finset.sum_const, Finset.card_univ, Fintype.card_fin, ← EReal.coe_nsmul, nsmul_eq_mul]; norm_num
  constructor
  · refine le_trans (le_of_eq ?_) (Finset.sum_le_sum fun p _ => (h p).1)
    rw [total]; norm_num
  · refine le_trans (Finset.sum_le_sum fun p _ => (h p).2) (le_of_eq ?_)
    rw [total]; norm_num

/-- On [-60, 60] the clip to [-60, 60] is the identity. -/
theorem clip_id (y : EReal) (h : ((-60 : ℝ) : EReal) ≤ y ∧ y ≤ ((60 : ℝ) : EReal)) :
    min ((60 : ℝ) : EReal) (max ((-60 : ℝ) : EReal) y) = y := by
  rw [max_eq_right h.1, min_eq_right h.2]

/-- What the reference makes of an entry `y` of the product. -/
def clipped (y : EReal) : EReal := Ideal.div y (1 + Ideal.exp (-(min ((60 : ℝ) : EReal) (max ((-60 : ℝ) : EReal) y))))

/-- One more than an exponential is not zero. -/
theorem one_add_exp_ne (y : EReal) : 1 + Ideal.exp y ≠ 0 := by
  have h : (0 : EReal) ≤ Ideal.exp y := by
    unfold Ideal.exp
    split
    · exact le_refl _
    · exact le_top
    · exact EReal.coe_nonneg.mpr (Real.exp_pos _).le
  have : (0 : EReal) < 1 + Ideal.exp y := lt_of_lt_of_le zero_lt_one (le_add_of_nonneg_right h)
  exact ne_of_gt this

/-- Where the clip does nothing, the kernel's product of `y` with its logistic is the reference's quotient. -/
theorem mul_logistic (y : EReal) (h : ((-60 : ℝ) : EReal) ≤ y ∧ y ≤ ((60 : ℝ) : EReal)) :
    y * Ideal.logistic y = clipped y := by
  unfold clipped
  rw [clip_id y h]
  unfold Ideal.logistic Ideal.div
  rw [if_neg (one_add_exp_ne _), if_neg (one_add_exp_ne _), one_mul]

/-- The words of the programs' constants as numbers. -/
theorem word_60 : Ideal.ofBits .f32 0x42700000#32 = ((60 : ℝ) : EReal) := by
  simp [Ideal.ofBits, Ideal.ieee, -EReal.coe_mul]; norm_num
theorem word_neg60 : Ideal.ofBits .f32 0xC2700000#32 = ((-60 : ℝ) : EReal) := by
  simp [Ideal.ofBits, Ideal.ieee, -EReal.coe_mul, -EReal.coe_neg]; norm_num
theorem word_half15 : Ideal.ofBits .f32 0x40F00000#32 = ((15 / 2 : ℝ) : EReal) := by
  simp [Ideal.ofBits, Ideal.ieee, -EReal.coe_mul]; norm_num
theorem word_neg_half15 : Ideal.ofBits .f32 0xC0F00000#32 = ((-(15 / 2) : ℝ) : EReal) := by
  simp [Ideal.ofBits, Ideal.ieee, -EReal.coe_mul, -EReal.coe_neg]; norm_num

end Cert.ValueProof

end
-- ==== Proof.Value.Reference.lean ====
/-
# What the reference computes

Its result at an entry is the clipped quotient of that entry of the product.
-/
module

public import proofs.«01_k».proof.Proof.Value.Real
public import proofs.«01_k».proof.Proof.Gen.ReferenceIdeal

@[expose] public section

noncomputable section

namespace Cert.ValueProof

open Idealize.ShloMosaic
open Cert.ReferenceIdeal Cert.ReferenceIdeal.Gen

/-- The reference's result from its two arguments. -/
def refOut (X : FVec Ideal Cert.ReferenceIdeal.S1024x1024 .bf16) (W : FVec Ideal Cert.ReferenceIdeal.S1024x1024 .bf16) : FVec Ideal Cert.ReferenceIdeal.S1024x1024 .f32 :=
  Host.divf (Host.dotGeneral dot_S1024x1024_S1024x1024_S1024x1024_1_0_0_1_n_n none X W) (addf (broadcastInDim S1024x1024 ![] bcast_S_S1024x1024 (constant S_ .f32 0x3F800000#32)) (Host.exp (Host.negf (minimumf (broadcastInDim S1024x1024 ![] bcast_S_S1024x1024 (id (constant S_ .f32 0x42700000#32))) (maximumf (broadcastInDim S1024x1024 ![] bcast_S_S1024x1024 (id (constant S_ .f32 0xC2700000#32))) (Host.dotGeneral dot_S1024x1024_S1024x1024_S1024x1024_1_0_0_1_n_n none X W))))))

/-- Entry by entry it is the clipped quotient of the product's entry. -/
theorem refOut_apply (X : FVec Ideal Cert.ReferenceIdeal.S1024x1024 .bf16) (W : FVec Ideal Cert.ReferenceIdeal.S1024x1024 .bf16) (r n : Fin 1024) :
    refOut X W (ix2 r n) = clipped (entry X W r n) := by
  unfold refOut clipped entry
  pointwise
  show Ideal.div _ (1 + Ideal.exp (-(min (Ideal.ofBits .f32 0x42700000#32) (max (Ideal.ofBits .f32 0xC2700000#32) _)))) = _
  rw [word_60, word_neg60]

end Cert.ValueProof

end
-- ==== Proof.Value.Pre.lean ====
/-
# What the precondition says

Read at an entry: a row of a device's 128 columns times a column of any group of 128 rows of the other argument lies in
[-7.5, 7.5].
-/
module

public import proofs.«01_k».proof.Proof.Value.Real
public import proofs.«01_k».proof.Proof.Gen.Pre_unclipped_KernelIdeal

@[expose] public section

noncomputable section

namespace Cert.ValueProof

open Idealize.ShloMosaic

/-- One device's share of an entry: row `r` of its 128 columns against column `n` of group `p` of `W`'s rows. -/
def part (x : (⟨2, ![1024, 128]⟩ : Shape).Idx → EReal) (W : (⟨2, ![1024, 1024]⟩ : Shape).Idx → EReal) (r : Fin 1024) (p : Fin 8) (n : Fin 1024) : EReal :=
  ∑ l : Fin 128, x (ix2 r l) * W (ix2 (place p l) n)

/-- Two truth values whose words' conjunction is one are both true. -/
theorem both_bits (a b : Bool) (h : IntOp.andi (BitVec.ofBool a) (BitVec.ofBool b) = 1#1) : a = true ∧ b = true := by
  revert h; revert a b; decide

/-- Where the predicate holds, every share lies in [-7.5, 7.5]. -/
theorem pre_apply (x : FVec Ideal Cert.Pre_unclipped_KernelIdeal.S1024x128 .bf16) (W : FVec Ideal Cert.Pre_unclipped_KernelIdeal.S1024x1024 .bf16)
    (h : Cert.Pre_unclipped_KernelIdeal.fn (F := Ideal) x W = fun _ => 1#1) (r : Fin 1024) (p : Fin 8) (n : Fin 1024) :
    ((-(15 / 2) : ℝ) : EReal) ≤ part x W r p n ∧ part x W r p n ≤ ((15 / 2 : ℝ) : EReal) := by
  have h' := congrFun h (ix3 r p n)
  revert h'
  unfold part
  pointwise [Cert.Pre_unclipped_KernelIdeal.fn]
  intro hb
  have hc := both_bits _ _ hb
  exact ⟨le_trans (le_of_eq word_neg_half15.symm) (of_decide_eq_true hc.2), le_trans (of_decide_eq_true hc.1) (le_of_eq word_half15)⟩

end Cert.ValueProof

end
-- ==== Proof.Value.Block.lean ====
/-
# What one device computes

Its result at an entry is the product, over the gathered rows, times its own logistic.
-/
module

public import proofs.«01_k».proof.Proof.Value.Real
public import proofs.«01_k».proof.Proof.Gen.KernelIdeal.Skeleton

@[expose] public section

noncomputable section

namespace Cert.ValueProof

open Idealize.ShloMosaic
open Cert.KernelIdeal Cert.KernelIdeal.Gen

/-- The last payload at an entry. -/
theorem pay4_apply (x : Vec Ideal S128x1024 .bf16) (w : Vec Ideal S1024x1024 .bf16) (r : Fin 128) (n : Fin 1024) :
    k0_pay4 x w (ix2 r n) = (∑ k : Fin 1024, x (ix2 r k) * w (ix2 k n)) * Ideal.logistic (∑ k : Fin 1024, x (ix2 r k) * w (ix2 k n)) := by
  pointwise [k0_pay4]

/-- The stores into the device's own copies of its arguments change nothing. -/
theorem pay12 (x : Vec Ideal S1024x128 .bf16) : k0_pay2 (k0_pay1 x) = x := by
  funext i; pointwise [k0_pay2, k0_pay1]
theorem pay3 (w : Vec Ideal S1024x1024 .bf16) : k0_pay3 w = w := by
  funext i; pointwise [k0_pay3]

end Cert.ValueProof

end
-- ==== Proof.Value.Equation.lean ====
/-
# The equation

What device `c` computes from what it gathers is block `c` of the reference's result.
-/
module

public import proofs.«01_k».proof.Proof.Value.Reference
public import proofs.«01_k».proof.Proof.Value.Pre
public import proofs.«01_k».proof.Proof.Value.Block
public import proofs.«01_k».proof.Proof.KernelIdeal.Blocks
public import Idealize.ShloMosaic.Lib.Layout

@[expose] public section

noncomputable section

namespace Cert.ValueProof

open Idealize.ShloMosaic
open Cert.KernelIdealProof (full srcIdx srcDev)

/-- A matrix of 1024 rows and columns. -/
abbrev Whole : Type := (⟨2, ![1024, 1024]⟩ : Shape).Idx → EReal

/-- Device `c`'s 128 columns of the first argument. -/
def cols (X : Whole) (c : Fin 8) : (⟨2, ![1024, 128]⟩ : Shape).Idx → EReal := Layout.block ⟨2, ![1024, 128]⟩ ⟨2, ![1024, 1024]⟩ 1 8 c X

/-- Column `l` of device `p`'s columns is column `128 p + l` of the whole. -/
theorem cols_apply (X : Whole) (p : Fin 8) (r : Fin 1024) (l : Fin 128) : cols X p (ix2 r l) = X (ix2 r (place p l)) := by
  unfold cols
  rw [Layout.block_apply]
  refine congrArg X (funext fun a => ?_)
  match a with
  | ⟨0, _⟩ => rfl
  | ⟨1, _⟩ => rfl

/-- What device `c` gathers is the 128 rows of the whole that are its own. -/
theorem full_apply (X : Whole) (c : Fin 8) (r : Fin 128) (k : Fin 1024) :
    full (F := Ideal) (fun p => cols X p) c (ix2 r k) = X (ix2 (place c r) k) := by
  have h1 : srcIdx c (ix2 r k) = ix2 (place c r) ⟨k.val % 128, Nat.mod_lt _ (by decide)⟩ := by
    funext a
    match a with
    | ⟨0, _⟩ => exact Fin.ext (by show 128 * c.val + r.val = c.val * 128 + r.val; omega)
    | ⟨1, _⟩ => rfl
  show cols X (srcDev (ix2 r k)) (srcIdx c (ix2 r k)) = _
  rw [h1, cols_apply]
  refine congrArg (fun q => X (ix2 (place c r) q)) (Fin.ext ?_)
  show k.val / 128 * 128 + k.val % 128 = k.val
  omega

/-- An entry of the product is the sum of the eight devices' shares. -/
theorem entry_parts (X W : Whole) (r n : Fin 1024) : entry X W r n = ∑ p : Fin 8, part (cols X p) W r p n := by
  unfold entry part
  rw [sum_groups]
  refine Finset.sum_congr rfl fun p _ => Finset.sum_congr rfl fun l _ => ?_
  rw [cols_apply]

/-- Under the precondition every entry of the product lies in [-60, 60]. -/
theorem entry_bounds (X W : Whole) (h : ∀ c : Fin 8, Cert.Pre_unclipped_KernelIdeal.fn (F := Ideal) (cols X c) W = fun _ => 1#1) (r n : Fin 1024) :
    ((-60 : ℝ) : EReal) ≤ entry X W r n ∧ entry X W r n ≤ ((60 : ℝ) : EReal) := by
  rw [entry_parts]
  exact sum_bounds _ fun p => pre_apply _ _ (h p) r p n

/-- Device `c`'s result from its gathered rows is block `c` of the reference's. -/
theorem block_eq (X W : Whole) (h : ∀ c : Fin 8, Cert.Pre_unclipped_KernelIdeal.fn (F := Ideal) (cols X c) W = fun _ => 1#1) (c : Fin 8) :
    Cert.KernelIdeal.Gen.k0_pay4 (F := Ideal) (full (F := Ideal) (fun p => cols X p) c) W
      = Layout.block ⟨2, ![128, 1024]⟩ ⟨2, ![1024, 1024]⟩ 0 8 c (refOut X W) := by
  have key (r : Fin 128) (n : Fin 1024) : Cert.KernelIdeal.Gen.k0_pay4 (F := Ideal) (full (F := Ideal) (fun p => cols X p) c) W (ix2 r n)
      = (Layout.block ⟨2, ![128, 1024]⟩ ⟨2, ![1024, 1024]⟩ 0 8 c (refOut X W)) (ix2 r n) := by
    rw [Layout.block_apply]
    have hi (t : Layout.Tiles ⟨2, ![128, 1024]⟩ ⟨2, ![1024, 1024]⟩ 0 8) : t.idx c (ix2 r n) = ix2 (place c r) n := by
      funext a
      match a with
      | ⟨0, _⟩ => rfl
      | ⟨1, _⟩ => rfl
    rw [hi, refOut_apply, pay4_apply]
    simp only [full_apply]
    exact mul_logistic _ (entry_bounds X W h _ _)
  funext i
  rw [eq_ix2 i]
  exact key _ _

end Cert.ValueProof

end
-- ==== Proof.Value.Arrays.lean ====
/-
# The arrays at the two ends of the run

Each window is its whole array, so a device starts from its arguments as they are and its result array ends at what the
body computed.
-/
module

public import proofs.«01_k».proof.Proof.KernelIdeal.Launch
public import proofs.«01_k».proof.Proof.Value.Equation

@[expose] public section

noncomputable section

namespace Cert.ValueProof

open Idealize.ShloMosaic Idealize.ShloMosaic.TcCoe
open Cert.KernelIdeal Cert.KernelIdeal.Gen Cert.KernelIdealProof
open Idealize.ShloMosaic.Pipeline (Dat Cfg Window)

variable (m : (ℓ : Loc nD τ sig) → Buf (Elt Ideal) ℓ) (ρ : Dev nD → PrngReg)

/-- What device `c` is handed of its first argument is that array. -/
theorem xstg_eq (c : Dev nD) : xstg m ρ c = m ((c : Thread nD τ).loc main_arg0) :=
  Memref.read_access_unit_zero (Elt Ideal) main_arg0
    (show (fun a => (win0_0.index (0 : Fin 1)) a * main_arg0.ty.shape.size a) = fun _ => 0 from funext fun a => by fin_cases a <;> decide)
    (fun a => by fin_cases a <;> decide) _
/-- What device `c` is handed of its second argument is that array. -/
theorem wstg_eq (c : Dev nD) : wstg m ρ c = m ((c : Thread nD τ).loc main_arg1) :=
  Memref.read_access_unit_zero (Elt Ideal) main_arg1
    (show (fun a => (win0_1.index (0 : Fin 1)) a * main_arg1.ty.shape.size a) = fun _ => 0 from funext fun a => by fin_cases a <;> decide)
    (fun a => by fin_cases a <;> decide) _

/-- The one block of the result array, read back, is what the body computed. -/
theorem finalA_block (c : Dev nD) : (win0_2.blk (0 : Fin 1)).view.read (Elt Ideal) (finalA m ρ c (2 : Fin 3)) = outAt m ρ c := by
  unfold finalA
  rw [show cfg0.N = ((0 : Fin 1) : Fin cfg0.N).val + 1 from rfl, (dats m ρ 0 c).arrAt_succ (2 : Fin 3) (0 : Fin 1)]
  rw [show (cfg0.win (2 : Fin 3)).flush (0 : Fin 1) = true from by decide, if_pos rfl]
  exact View.read_write_univ _ _

/-- The result array ends at what the body computed. -/
theorem finalA_out (c : Dev nD) : finalA m ρ c (2 : Fin 3) = outAt m ρ c :=
  (Memref.read_access_unit_zero (Elt Ideal) main_v1
    (show (fun a => (win0_2.index (0 : Fin 1)) a * main_v1.ty.shape.size a) = fun _ => 0 from funext fun a => by fin_cases a <;> decide)
    (fun a => by fin_cases a <;> decide) _).symm.trans (finalA_block m ρ c)

/-- Where every device starts with its columns of `X` and the whole of `W`, and the precondition holds, device `c` computes
    block `c` of the reference's result. -/
theorem out_eq (X W : Whole) (h0 : ∀ c : Dev nD, m ((c : Thread nD τ).loc main_arg0) = cols X c) (h1 : ∀ c : Dev nD, m ((c : Thread nD τ).loc main_arg1) = W)
    (hp : ∀ c : Fin 8, Cert.Pre_unclipped_KernelIdeal.fn (F := Ideal) (cols X c) W = fun _ => 1#1) (c : Dev nD) :
    outAt m ρ c = Layout.block ⟨2, ![128, 1024]⟩ ⟨2, ![1024, 1024]⟩ 0 8 c (refOut X W) := by
  have hx : xb m ρ = fun p => cols X p := funext fun p => (pay12 _).trans ((xstg_eq m ρ p).trans (h0 p))
  have hw : wb m ρ c = W := (pay3 _).trans ((wstg_eq m ρ c).trans (h1 c))
  unfold outAt
  rw [hx, hw]
  exact block_eq X W hp c

end Cert.ValueProof

end
-- ==== Proof.lean ====
/-
# The certificate

The five claims put together: the runs of the two kernel programs (Proof/Kernel, Proof/KernelIdeal), the run of the
reference, and the equation between what they compute (Proof/Value).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_unclipped_KernelIdeal
public import proofs.«01_k».proof.Proof.Gen.Pre_unclipped_ReferenceIdeal
public import proofs.«01_k».proof.Proof.Kernel.Launch
public import proofs.«01_k».proof.Proof.KernelIdeal.Launch
public import proofs.«01_k».proof.Proof.Value.Arrays
public import Idealize.ShloMosaic.Adequacy
public import Idealize.ShloMosaic.Init

@[expose] public section

noncomputable section

namespace Cert.Proof

open Idealize.ShloMosaic Idealize.ShloMosaic.TcCoe Idealize.SL.Sem

/-- The kernel runs, its arguments end as they were and its counters at zero. -/
theorem frame_kernel : Cert.quiescent_Kernel := by
  intro m ρ _
  exact (θ_run Cert.Kernel.defs _ _).mono
    (fun _ h => ⟨fun c => ⟨(h.1 c (0 : Fin 3)).trans (Cert.KernelProof.finalA_x m ρ c), (h.1 c (1 : Fin 3)).trans (Cert.KernelProof.finalA_w m ρ c)⟩, h.2⟩)
    (Cert.KernelProof.run_main (F := Bits) m ρ)

/-- So does the kernel over the extended reals, from any memory. -/
theorem frame_ideal (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono
    (fun _ h => ⟨fun c => ⟨(h.1 c (0 : Fin 3)).trans (Cert.KernelIdealProof.finalA_x m ρ c), (h.1 c (1 : Fin 3)).trans (Cert.KernelIdealProof.finalA_w m ρ c)⟩, h.2⟩)
    (Cert.KernelIdealProof.run_main (F := Ideal) m ρ)

/-- So does the reference. -/
theorem frame_reference (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Under the precondition each device's result is its block of the reference's. -/
theorem value : Cert.algebraic_KernelIdeal_ReferenceIdeal_pre_unclipped_KernelIdeal := by
  intro m ρ m' ρ' hpre hagree
  have hp : ∀ c : Fin 8, Cert.Pre_unclipped_KernelIdeal.fn (F := Ideal)
      (Cert.ValueProof.cols (m' (((0 : Dev Cert.ReferenceIdeal.nD).tc : Thread _ Cert.ReferenceIdeal.τ).loc Cert.ReferenceIdeal.main_arg0)) c)
      (m' (((0 : Dev Cert.ReferenceIdeal.nD).tc : Thread _ Cert.ReferenceIdeal.τ).loc Cert.ReferenceIdeal.main_arg1)) = fun _ => 1#1 := fun c => by
    have h := hpre c
    rw [(hagree c).1, (hagree c).2] at h
    exact h
  refine ⟨Cert.ValueProof.refOut (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1)), ?_, ?_⟩
  · exact (θ_run Cert.KernelIdeal.defs _ _).mono
      (fun _ h c => ⟨(h.1 c (2 : Fin 3)).trans ((Cert.ValueProof.finalA_out m ρ c).trans
          (Cert.ValueProof.out_eq m ρ _ _ (fun c => (hagree c).1) (fun c => (hagree c).2) hp c)),
        (h.1 c (0 : Fin 3)).trans (Cert.KernelIdealProof.finalA_x m ρ c), (h.1 c (1 : Fin 3)).trans (Cert.KernelIdealProof.finalA_w m ρ c)⟩)
      (Cert.KernelIdealProof.run_main (F := Ideal) m ρ)
  · exact (θ_run Cert.ReferenceIdeal.defs _ _).mono (fun _ h => h 0) (Cert.ReferenceIdeal.Value.run (F := Ideal) m' ρ')

/-- Everything that is claimed. -/
theorem claim : Cert.Claim :=
  ⟨Cert.Kernel.Gen.facts, Cert.KernelIdeal.Gen.facts, Cert.ReferenceIdeal.Gen.facts, Cert.Pre_unclipped_KernelIdeal.Gen.facts, Cert.Pre_unclipped_ReferenceIdeal.Gen.facts,
    frame_kernel, fun m ρ _ => frame_ideal m ρ, fun m ρ _ => frame_ideal m ρ, fun m ρ _ => frame_reference m ρ, fun m ρ _ => frame_reference m ρ, trivial, value⟩

end Cert.Proof

end
